-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v31)) (v1 : (c : Dev Cert.Kernel3Ideal.nD) → Buf (Elt Ideal) ((c.tc : Thread Cert.Kernel3Ideal.nD Cert.Kernel3Ideal.τ).loc Cert.Kernel3Ideal.main_v32)) (v2 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_v32) = v1 c
          ∧ r.2.mem ((c.tc : Thread Cert.Kernel3Ideal.nD Cert.Kernel3Ideal.τ).loc Cert.Kernel3Ideal.main_v33) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x16x128 : Shape := ⟨4, ![4, 8192, 16, 128]⟩
abbrev S4x8192x16x64 : Shape := ⟨4, ![4, 8192, 16, 64]⟩
abbrev S4x8192x512 : Shape := ⟨3, ![4, 8192, 512]⟩
abbrev S4x8192x64 : Shape := ⟨3, ![4, 8192, 64]⟩
abbrev S512x16x128 : Shape := ⟨3, ![512, 16, 128]⟩
abbrev S_ : Shape := ⟨0, ![]⟩

class Facts : Prop where
  bcast_S_S4x8192x16x128 : S_.BroadcastsInDim S4x8192x16x128 (![] : Fin 0 → Fin S4x8192x16x128.rank)
  bcast_S_S4x8192x16x64 : S_.BroadcastsInDim S4x8192x16x64 (![] : Fin 0 → Fin S4x8192x16x64.rank)
  bcast_S_S4x8192x512 : S_.BroadcastsInDim S4x8192x512 (![] : Fin 0 → Fin S4x8192x512.rank)
  bcast_S_S4x8192x64 : S_.BroadcastsInDim S4x8192x64 (![] : Fin 0 → Fin S4x8192x64.rank)
  bcast_S_S512x16x128 : S_.BroadcastsInDim S512x16x128 (![] : Fin 0 → Fin S512x16x128.rank)

variable [Facts]

def fn {F : FTy → Type} [FloatOps F] (main_arg0 : FVec F S4x8192x16x128 .f32) (main_arg1 : FVec F S4x8192x16x64 .f32) (main_arg2 : FVec F S4x8192x512 .f32) (main_arg3 : FVec F S4x8192x64 .f32) (main_arg4 : FVec F S512x16x128 .f32) (main_arg5 : FVec F S512x16x128 .f32) : IVec S4x8192x16x128 1 × IVec S4x8192x16x64 1 × IVec S4x8192x512 1 × IVec S4x8192x64 1 × IVec S512x16x128 1 × IVec S512x16x128 1 :=
  let main_v0 : FVec F S4x8192x16x128 .f32 := Host.absf main_arg0
  let main_cst : FVec F S_ .f32 := constant S_ .f32 0x7F800000#32
  let main_v1 : FVec F S4x8192x16x128 .f32 := broadcastInDim S4x8192x16x128 ![] bcast_S_S4x8192x16x128 main_cst
  let main_v2 : IVec S4x8192x16x128 1 := cmpf .olt main_v0 main_v1
  let main_v3 : FVec F S4x8192x16x64 .f32 := Host.absf main_arg1
  let main_cst_0 : FVec F S_ .f32 := constant S_ .f32 0x7F800000#32
  let main_v4 : FVec F S4x8192x16x64 .f32 := broadcastInDim S4x8192x16x64 ![] bcast_S_S4x8192x16x64 main_cst_0
  let main_v5 : IVec S4x8192x16x64 1 := cmpf .olt main_v3 main_v4
  let main_v6 : FVec F S4x8192x512 .f32 := Host.absf main_arg2
  let main_cst_1 : FVec F S_ .f32 := constant S_ .f32 0x7F800000#32
  let main_v7 : FVec F S4x8192x512 .f32 := broadcastInDim S4x8192x512 ![] bcast_S_S4x8192x512 main_cst_1
  let main_v8 : IVec S4x8192x512 1 := cmpf .olt main_v6 main_v7
  let main_v9 : FVec F S4x8192x64 .f32 := Host.absf main_arg3
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  let main_v12 : FVec F S512x16x128 .f32 := Host.absf main_arg4
  let main_cst_3 : FVec F S_ .f32 := constant S_ .f32 0x7F800000#32
  let main_v13 : FVec F S512x16x128 .f32 := broadcastInDim S512x16x128 ![] bcast_S_S512x16x128 main_cst_3
  let main_v14 : IVec S512x16x128 1 := cmpf .olt main_v12 main_v13
  let main_v15 : FVec F S512x16x128 .f32 := Host.absf main_arg5
  let main_cst_4 : FVec F S_ .f32 := constant S_ .f32 0x7F800000#32
  let main_v16 : FVec F S512x16x128 .f32 := broadcastInDim S512x16x128 ![] bcast_S_S512x16x128 main_cst_4
  let main_v17 : IVec S512x16x128 1 := cmpf .olt main_v15 main_v16
  (main_v2, main_v5, main_v8, main_v11, main_v14, main_v17)
-- ==== Kernel.lean ====
abbrev S4x8192x16x128 : Shape := ⟨4, ![4, 8192, 16, 128]⟩
abbrev S4x8192x16x64 : Shape := ⟨4, ![4, 8192, 16, 64]⟩
abbrev S4x8192x512 : Shape := ⟨3, ![4, 8192, 512]⟩
abbrev S4x8192x64 : Shape := ⟨3, ![4, 8192, 64]⟩
abbrev S512x16x128 : Shape := ⟨3, ![512, 16, 128]⟩
abbrev S_ : Shape := ⟨0, ![]⟩
abbrev S32768x2048 : Shape := ⟨2, ![32768, 2048]⟩
abbrev S32768x512 : Shape := ⟨2, ![32768, 512]⟩
abbrev S4x8192x128 : Shape := ⟨3, ![4, 8192, 128]⟩
abbrev S32768x128 : Shape := ⟨2, ![32768, 128]⟩
abbrev S512x2048 : Shape := ⟨2, ![512, 2048]⟩
abbrev S2048x512 : Shape := ⟨2, ![2048, 512]⟩
abbrev S64x2048x512 : Shape := ⟨3, ![64, 2048, 512]⟩
abbrev S512x512 : Shape := ⟨2, ![512, 512]⟩
abbrev S1x2048x512 : Shape := ⟨3, ![1, 2048, 512]⟩
abbrev S8192x512 : Shape := ⟨2, ![8192, 512]⟩
abbrev S8192x128 : Shape := ⟨2, ![8192, 128]⟩
abbrev S16x512x512 : Shape := ⟨3, ![16, 512, 512]⟩
abbrev S4x1x512 : Shape := ⟨3, ![4, 1, 512]⟩
abbrev S4x128x512 : Shape := ⟨3, ![4, 128, 512]⟩
abbrev S512x128 : Shape := ⟨2, ![512, 128]⟩
abbrev S512x256 : Shape := ⟨2, ![512, 256]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 37
  | .vmem => 23
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x64, .f32⟩
  | .hbm, ⟨2, _⟩ => ⟨S4x8192x512, .f32⟩
  | .hbm, ⟨3, _⟩ => ⟨S4x8192x64, .f32⟩
  | .hbm, ⟨4, _⟩ => ⟨S512x16x128, .f32⟩
  | .hbm, ⟨5, _⟩ => ⟨S512x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x16x128, .f32⟩
  | .hbm, ⟨12, _⟩ => ⟨S4x8192x16x128, .f32⟩
  | .hbm, ⟨13, _⟩ => ⟨S32768x2048, .f32⟩
  | .hbm, ⟨14, _⟩ => ⟨S32768x2048, .bf16⟩
  | .hbm, ⟨15, _⟩ => ⟨S_, .i32⟩
  | .hbm, ⟨16, _⟩ => ⟨S_, .f32⟩
  | .hbm, ⟨17, _⟩ => ⟨S4x8192x16x128, .f32⟩
  | .hbm, ⟨18, _⟩ => ⟨S4x8192x16x128, .f32⟩
  | .hbm, ⟨19, _⟩ => ⟨S4x8192x16x128, .f32⟩
  | .hbm, ⟨20, _⟩ => ⟨S32768x2048, .f32⟩
  | .hbm, ⟨21, _⟩ => ⟨S32768x2048, .bf16⟩
  | .hbm, ⟨22, _⟩ => ⟨S32768x512, .f32⟩
  | .hbm, ⟨23, _⟩ => ⟨S32768x512, .bf16⟩
  | .hbm, ⟨24, _⟩ => ⟨S_, .i32⟩
  | .hbm, ⟨25, _⟩ => ⟨S_, .f32⟩
  | .hbm, ⟨26, _⟩ => ⟨S4x8192x128, .f32⟩
  | .hbm, ⟨27, _⟩ => ⟨S32768x128, .f32⟩
  | .hbm, ⟨28, _⟩ => ⟨S32768x128, .bf16⟩
  | .hbm, ⟨29, _⟩ => ⟨S512x2048, .f32⟩
  | .hbm, ⟨30, _⟩ => ⟨S512x2048, .bf16⟩
  | .hbm, ⟨31, _⟩ => ⟨S512x2048, .f32⟩
  | .hbm, ⟨32, _⟩ => ⟨S2048x512, .f32⟩
  | .hbm, ⟨33, _⟩ => ⟨S2048x512, .bf16⟩
  | .hbm, ⟨34, _⟩ => ⟨S32768x2048, .bf16⟩
  | .hbm, ⟨35, _⟩ => ⟨S64x2048x512, .bf16⟩
  | .hbm, ⟨36, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8192x512, .bf16⟩
  | .local _ .vmem, ⟨13, _⟩ => ⟨S8192x512, .bf16⟩
  | .local _ .vmem, ⟨14, _⟩ => ⟨S8192x128, .bf16⟩
  | .local _ .vmem, ⟨15, _⟩ => ⟨S8192x128, .bf16⟩
  | .local _ .vmem, ⟨16, _⟩ => ⟨S16x512x512, .bf16⟩
  | .local _ .vmem, ⟨17, _⟩ => ⟨S16x512x512, .bf16⟩
  | .local _ .vmem, ⟨18, _⟩ => ⟨S512x512, .bf16⟩
  | .local _ .vmem, ⟨19, _⟩ => ⟨S512x512, .bf16⟩
  | .local _ .vmem, ⟨20, _⟩ => ⟨S4x1x512, .f32⟩
  | .local _ .vmem, ⟨21, _⟩ => ⟨S4x1x512, .f32⟩
  | .local _ .vmem, ⟨22, _⟩ => ⟨S4x128x512, .f32⟩
  | _, _ => ⟨S4x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 16], ![false, false, false]⟩

@[reducible] def k1_t1_loop (i : grid1.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k1_mult1 (i : grid1.Coords) (k1_t1 : Fin (k1_t1_loop i).trips) : BitVec 32 :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  v450
def k1_off1 (i : grid1.Coords) (k1_t1 : Fin (k1_t1_loop i).trips) : Fin 2 → Nat :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  let v451 : BitVec 32 := v450
  let v452 : Index := Scalar.indexCast v451
  let c0_216 : Index := 0#32
  ![v452.toNat, 0]
def k1_off2 (i : grid1.Coords) (k1_t1 : Fin (k1_t1_loop i).trips) : Fin 2 → Nat :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  let v451 : BitVec 32 := v450
  let v460 : Index := Scalar.indexCast v451
  let c0_221 : Index := 0#32
  ![v460.toNat, 0]
def k1_off3 (i : grid1.Coords) (k1_t1 : Fin (k1_t1_loop i).trips) : Fin 2 → Nat :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  let v451 : BitVec 32 := v450
  let v470 : Index := Scalar.indexCast v451
  let c128_227 : Index := 128#32
  ![v470.toNat, 128]
def k1_off4 (i : grid1.Coords) (k1_t1 : Fin (k1_t1_loop i).trips) : Fin 2 → Nat :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  let v451 : BitVec 32 := v450
  let v480 : Index := Scalar.indexCast v451
  let c256_233 : Index := 256#32
  ![v480.toNat, 256]
def k1_off5 (i : grid1.Coords) (k1_t1 : Fin (k1_t1_loop i).trips) : Fin 2 → Nat :=
  let c0_i32_10 : BitVec 32 := 0#32
  let c1_i32_11 : BitVec 32 := 1#32
  let arg12 : BitVec 32 := Scf.iv c0_i32_10 c1_i32_11 k1_t1
  let c512_i32_215 : BitVec 32 := 512#32
  let v450 : BitVec 32 := Scalar.muli arg12 c512_i32_215
  let v451 : BitVec 32 := v450
  let v490 : Index := Scalar.indexCast v451
  let c384_239 : Index := 384#32
  ![v490.toNat, 384]
def k1_off6 (i : grid1.Coords) (k1_t1 : Fin (k1_t1_loop i).trips) : Fin 3 → Nat :=
  let c0_i32_10 : BitVec 32 := 0#32
  let c1_i32_11 : BitVec 32 := 1#32
  let arg12 : BitVec 32 := Scf.iv c0_i32_10 c1_i32_11 k1_t1
  let v518 : Index := Scalar.indexCast arg12
  let c0_255 : Index := 0#32
  let c0_256 : Index := 0#32
  ![v518.toNat, 0, 0]
def k1_off7 (i : grid1.Coords) (k1_t1 : Fin (k1_t1_loop i).trips) : Fin 3 → Nat :=
  let c0_i32_10 : BitVec 32 := 0#32
  let c1_i32_11 : BitVec 32 := 1#32
  let arg12 : BitVec 32 := Scf.iv c0_i32_10 c1_i32_11 k1_t1
  let v553 : Index := Scalar.indexCast arg12
  let c128_278 : Index := 128#32
  let c0_279 : Index := 0#32
  ![v553.toNat, 128, 0]
def k1_off8 (i : grid1.Coords) (k1_t1 : Fin (k1_t1_loop i).trips) : Fin 3 → Nat :=
  let c0_i32_10 : BitVec 32 := 0#32
  let c1_i32_11 : BitVec 32 := 1#32
  let arg12 : BitVec 32 := Scf.iv c0_i32_10 c1_i32_11 k1_t1
  let v588 : Index := Scalar.indexCast arg12
  let c256_301 : Index := 256#32
  let c0_302 : Index := 0#32
  ![v588.toNat, 256, 0]
def k1_off9 (i : grid1.Coords) (k1_t1 : Fin (k1_t1_loop i).trips) : Fin 3 → Nat :=
  let c0_i32_10 : BitVec 32 := 0#32
  let c1_i32_11 : BitVec 32 := 1#32
  let arg12 : BitVec 32 := Scf.iv c0_i32_10 c1_i32_11 k1_t1
  let v623 : Index := Scalar.indexCast arg12
  let c384_324 : Index := 384#32
  let c0_325 : Index := 0#32
  ![v623.toNat, 384, 0]
@[reducible] def k1_t2_loop (i : grid1.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k1_mult2 (i : grid1.Coords) (k1_t2 : Fin (k1_t2_loop i).trips) : BitVec 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  v450
def k1_off10 (i : grid1.Coords) (k1_t2 : Fin (k1_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  let v451 : BitVec 32 := v450
  let v452 : Index := Scalar.indexCast v451
  let c0_216 : Index := 0#32
  ![v452.toNat, 0]
def k1_off11 (i : grid1.Coords) (k1_t2 : Fin (k1_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  let v451 : BitVec 32 := v450
  let v460 : Index := Scalar.indexCast v451
  let c0_221 : Index := 0#32
  ![v460.toNat, 0]
def k1_off12 (i : grid1.Coords) (k1_t2 : Fin (k1_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  let v451 : BitVec 32 := v450
  let v470 : Index := Scalar.indexCast v451
  let c128_227 : Index := 128#32
  ![v470.toNat, 128]
def k1_off13 (i : grid1.Coords) (k1_t2 : Fin (k1_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  let v451 : BitVec 32 := v450
  let v480 : Index := Scalar.indexCast v451
  let c256_233 : Index := 256#32
  ![v480.toNat, 256]
def k1_off14 (i : grid1.Coords) (k1_t2 : Fin (k1_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let c512_i32_215 : BitVec 32 := 512#32
  let v450 : BitVec 32 := Scalar.muli arg12 c512_i32_215
  let v451 : BitVec 32 := v450
  let v490 : Index := Scalar.indexCast v451
  let c384_239 : Index := 384#32
  ![v490.toNat, 384]
def k1_off15 (i : grid1.Coords) (k1_t2 : Fin (k1_t2_loop i).trips) : Fin 3 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let v518 : Index := Scalar.indexCast arg12
  let c0_255 : Index := 0#32
  let c0_256 : Index := 0#32
  ![v518.toNat, 0, 0]
def k1_off16 (i : grid1.Coords) (k1_t2 : Fin (k1_t2_loop i).trips) : Fin 3 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let v553 : Index := Scalar.indexCast arg12
  let c128_278 : Index := 128#32
  let c0_279 : Index := 0#32
  ![v553.toNat, 128, 0]
def k1_off17 (i : grid1.Coords) (k1_t2 : Fin (k1_t2_loop i).trips) : Fin 3 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let v588 : Index := Scalar.indexCast arg12
  let c256_301 : Index := 256#32
  let c0_302 : Index := 0#32
  ![v588.toNat, 256, 0]
def k1_off18 (i : grid1.Coords) (k1_t2 : Fin (k1_t2_loop i).trips) : Fin 3 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k1_t2
  let v623 : Index := Scalar.indexCast arg12
  let c384_324 : Index := 384#32
  let c0_325 : Index := 0#32
  ![v623.toNat, 384, 0]
def k1_mult3 (i : grid1.Coords) : BitVec 32 :=
  let arg2 : BitVec 32 := BitVec.ofNat 32 (i 2).val
  let c512_i32 : BitVec 32 := 512#32
  let v17 : BitVec 32 := Scalar.muli arg2 c512_i32
  v17
def k1_off19 (i : grid1.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_13 : Index := 0#32
  ![v19.toNat, 0]
def k1_off20 (i : grid1.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v27 : Index := Scalar.indexCast v18
  let c0_18 : Index := 0#32
  ![v27.toNat, 0]
def k1_off21 (i : grid1.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v37 : Index := Scalar.indexCast v18
  let c128_23 : Index := 128#32
  ![v37.toNat, 128]
def k1_off22 (i : grid1.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v47 : Index := Scalar.indexCast v18
  let c256_28 : Index := 256#32
  ![v47.toNat, 256]
def k1_off23 (i : grid1.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v57 : Index := Scalar.indexCast v18
  let c384_33 : Index := 384#32
  ![v57.toNat, 384]
def k1_off24 (i : grid1.Coords) : Fin 3 → Nat :=
  let arg2 : BitVec 32 := BitVec.ofNat 32 (i 2).val
  let v138 : Index := Scalar.indexCast arg2
  let c0_63 : Index := 0#32
  let c0_64 : Index := 0#32
  ![v138.toNat, 0, 0]
def k1_off25 (i : grid1.Coords) : Fin 3 → Nat :=
  let arg2 : BitVec 32 := BitVec.ofNat 32 (i 2).val
  let v226 : Index := Scalar.indexCast arg2
  let c128_100 : Index := 128#32
  let c0_101 : Index := 0#32
  ![v226.toNat, 128, 0]
def k1_off26 (i : grid1.Coords) : Fin 3 → Nat :=
  let arg2 : BitVec 32 := BitVec.ofNat 32 (i 2).val
  let v314 : Index := Scalar.indexCast arg2
  let c256_137 : Index := 256#32
  let c0_138 : Index := 0#32
  ![v314.toNat, 256, 0]
def k1_off27 (i : grid1.Coords) : Fin 3 → Nat :=
  let arg2 : BitVec 32 := BitVec.ofNat 32 (i 2).val
  let v402 : Index := Scalar.indexCast arg2
  let c384_174 : Index := 384#32
  let c0_175 : Index := 0#32
  ![v402.toNat, 384, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S8192x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S16x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x16x128 : Shape := ⟨4, ![4, 8192, 16, 128]⟩
abbrev S4x8192x16x64 : Shape := ⟨4, ![4, 8192, 16, 64]⟩
abbrev S4x8192x512 : Shape := ⟨3, ![4, 8192, 512]⟩
abbrev S4x8192x64 : Shape := ⟨3, ![4, 8192, 64]⟩
abbrev S512x16x128 : Shape := ⟨3, ![512, 16, 128]⟩
abbrev S8192 : Shape := ⟨1, ![8192]⟩
abbrev S16x512x4x8192 : Shape := ⟨4, ![16, 512, 4, 8192]⟩
abbrev S4x8192x16x512 : Shape := ⟨4, ![4, 8192, 16, 512]⟩
abbrev S4x8192x8192x16 : Shape := ⟨4, ![4, 8192, 8192, 16]⟩
abbrev S4x16x8192x8192 : Shape := ⟨4, ![4, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x16x8192 : Shape := ⟨3, ![4, 16, 8192]⟩
abbrev S4x16x8192x1 : Shape := ⟨4, ![4, 16, 8192, 1]⟩
abbrev S4x512x16x8192 : Shape := ⟨4, ![4, 512, 16, 8192]⟩
abbrev S16x128x4x8192 : Shape := ⟨4, ![16, 128, 4, 8192]⟩
abbrev S32768x2048 : Shape := ⟨2, ![32768, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x64, .f32⟩
  | .hbm, ⟨2, _⟩ => ⟨S4x8192x512, .f32⟩
  | .hbm, ⟨3, _⟩ => ⟨S4x8192x64, .f32⟩
  | .hbm, ⟨4, _⟩ => ⟨S512x16x128, .f32⟩
  | .hbm, ⟨5, _⟩ => ⟨S512x16x128, .f32⟩
  | .hbm, ⟨6, _⟩ => ⟨S8192, .i32⟩
  | .hbm, ⟨7, _⟩ => ⟨S16x512x4x8192, .f32⟩
  | .hbm, ⟨8, _⟩ => ⟨S4x8192x16x512, .f32⟩
  | .hbm, ⟨9, _⟩ => ⟨S4x8192x8192x16, .f32⟩
  | .hbm, ⟨10, _⟩ => ⟨S4x16x8192x8192, .f32⟩
  | .hbm, ⟨11, _⟩ => ⟨S4x8192x8192x16, .f32⟩
  | .hbm, ⟨12, _⟩ => ⟨S4x16x8192x8192, .f32⟩
  | .hbm, ⟨13, _⟩ => ⟨S4x16x8192x8192, .f32⟩
  | .hbm, ⟨14, _⟩ => ⟨S_, .f32⟩
  | .hbm, ⟨15, _⟩ => ⟨S_, .f32⟩
  | .hbm, ⟨16, _⟩ => ⟨S4x16x8192x8192, .f32⟩
  | .hbm, ⟨17, _⟩ => ⟨S4x16x8192x8192, .f32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S1x8192, .i32⟩
  | .hbm, ⟨37, _⟩ => ⟨S_, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x8192, .i32⟩
  | .hbm, ⟨57, _⟩ => ⟨S8192x8192, .i32⟩
  | .hbm, ⟨58, _⟩ => ⟨S8192x8192, .i1⟩
  | .hbm, ⟨59, _⟩ => ⟨S1x1x8192x8192, .i1⟩
  | .hbm, ⟨60, _⟩ => ⟨S_, .f32⟩
  | .hbm, ⟨61, _⟩ => ⟨S_, .f32⟩
  | .hbm, ⟨62, _⟩ => ⟨S4x16x8192x8192, .i1⟩
  | .hbm, ⟨63, _⟩ => ⟨S4x16x8192x8192, .f32⟩
  | .hbm, ⟨64, _⟩ => ⟨S4x16x8192x8192, .f32⟩
  | .hbm, ⟨65, _⟩ => ⟨S_, .f32⟩
  | .hbm, ⟨66, _⟩ => ⟨S4x16x8192, .f32⟩
  | .hbm, ⟨67, _⟩ => ⟨S_, .f32⟩
  | .hbm, ⟨68, _⟩ => ⟨S4x16x8192, .f32⟩
  | .hbm, ⟨69, _⟩ => ⟨S4x16x8192, .f32⟩
  | .hbm, ⟨70, _⟩ => ⟨S4x16x8192x1, .f32⟩
  | .hbm, ⟨71, _⟩ => ⟨S4x16x8192x8192, .f32⟩
  | .hbm, ⟨72, _⟩ => ⟨S4x16x8192x8192, .f32⟩
  | .hbm, ⟨73, _⟩ => ⟨S4x16x8192x8192, .f32⟩
  | .hbm, ⟨74, _⟩ => ⟨S_, .f32⟩
  | .hbm, ⟨75, _⟩ => ⟨S4x16x8192, .f32⟩
  | .hbm, ⟨76, _⟩ => ⟨S4x16x8192x1, .f32⟩
  | .hbm, ⟨77, _⟩ => ⟨S4x16x8192x8192, .f32⟩
  | .hbm, ⟨78, _⟩ => ⟨S4x16x8192x8192, .f32⟩
  | .hbm, ⟨79, _⟩ => ⟨S4x512x16x8192, .f32⟩
  | .hbm, ⟨80, _⟩ => ⟨S4x8192x16x512, .f32⟩
  | .hbm, ⟨81, _⟩ => ⟨S16x128x4x8192, .f32⟩
  | .hbm, ⟨82, _⟩ => ⟨S4x8192x16x128, .f32⟩
  | .hbm, ⟨83, _⟩ => ⟨S32768x2048, .f32⟩
  | .hbm, ⟨84, _⟩ => ⟨S32768x2048, .bf16⟩
  | _, _ => ⟨S4x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v19 : Ref sig .tc := ⟨.hbm, 64, rfl⟩
abbrev main_cst_2 : Ref sig .tc := ⟨.hbm, 65, rfl⟩
abbrev main_v20 : Ref sig .tc := ⟨.hbm, 66, rfl⟩
abbrev main_cst_3 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]
-- ==== Kernel2.lean ====
abbrev S4x8192x2048 : Shape := ⟨3, ![4, 8192, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S32768x2048 : Shape := ⟨2, ![32768, 2048]⟩
abbrev S1x5632 : Shape := ⟨2, ![1, 5632]⟩
abbrev S1x2048 : Shape := ⟨2, ![1, 2048]⟩
abbrev S64x2x5632 : Shape := ⟨3, ![64, 2, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S11x8x512 : Shape := ⟨3, ![11, 8, 512]⟩
abbrev S512x512 : Shape := ⟨2, ![512, 512]⟩
abbrev S8x512 : Shape := ⟨2, ![8, 512]⟩
abbrev S1x8x512 : Shape := ⟨3, ![1, 8, 512]⟩
abbrev S2x512 : Shape := ⟨2, ![2, 512]⟩
abbrev S512 : Shape := ⟨1, ![512]⟩
abbrev S512x1 : Shape := ⟨2, ![512, 1]⟩
abbrev S4x2x5632 : Shape := ⟨3, ![4, 2, 5632]⟩

abbrev nBuf : Space → Nat
  | .hbm => 18
  | .vmem => 21
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S32768x2048, .f32⟩
  | .hbm, ⟨8, _⟩ => ⟨S32768x2048, .bf16⟩
  | .hbm, ⟨9, _⟩ => ⟨S32768x2048, .f32⟩
  | .hbm, ⟨10, _⟩ => ⟨S2048x11264, .bf16⟩
  | .hbm, ⟨11, _⟩ => ⟨S1x5632, .f32⟩
  | .hbm, ⟨12, _⟩ => ⟨S5632x2048, .bf16⟩
  | .hbm, ⟨13, _⟩ => ⟨S1x2048, .f32⟩
  | .hbm, ⟨14, _⟩ => ⟨S32768x2048, .f32⟩
  | .hbm, ⟨15, _⟩ => ⟨S64x2x5632, .f32⟩
  | .hbm, ⟨16, _⟩ => ⟨S4x8192x2048, .f32⟩
  | .hbm, ⟨17, _⟩ => ⟨S4x2x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S1x2x512, .f32⟩
  | .local _ .vmem, ⟨18, _⟩ => ⟨S1x2x512, .f32⟩
  | .local _ .vmem, ⟨19, _⟩ => ⟨S512x2048, .f32⟩
  | .local _ .vmem, ⟨20, _⟩ => ⟨S11x8x512, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 11], ![false, false]⟩

def k0_cond1 (i : grid0.Coords) : BitVec 1 :=
  let arg0 : BitVec 32 := BitVec.ofNat 32 (i 0).val
  let c16_i32 : BitVec 32 := 16#32
  let c0_i32 : BitVec 32 := 0#32
  let v8 : BitVec 1 := Scalar.cmpi .eq c16_i32 c0_i32
  let c1_i32 : BitVec 32 := 1#32
  let v9 : BitVec 32 := Scalar.select v8 c1_i32 c16_i32
  let v10 : BitVec 32 := Scalar.remsi arg0 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let c0_i32_9 : BitVec 32 := 0#32
  let v18 : BitVec 1 := Scalar.cmpi .eq v17 c0_i32_9
  let v19 : BitVec 32 := Scalar.extui v18
  let c0_i32_10 : BitVec 32 := 0#32
  let v20 : BitVec 1 := Scalar.cmpi .ne v19 c0_i32_10
  v20

def k0_off1 (i : grid0.Coords) : Fin 3 → Nat :=
  let arg1 : BitVec 32 := BitVec.ofNat 32 (i 1).val
  let v91 : Index := Scalar.indexCast arg1
  let c0_37 : Index := 0#32
  let c0_38 : Index := 0#32
  ![v91.toNat, 0, 0]
def k0_off2 (i : grid0.Coords) : Fin 3 → Nat :=
  let arg1 : BitVec 32 := BitVec.ofNat 32 (i 1).val
  let v21 : Index := Scalar.indexCast arg1
  let c0_11 : Index := 0#32
  let c0_12 : Index := 0#32
  ![v21.toNat, 0, 0]
def k0_cond4 (i : grid0.Coords) : BitVec 1 :=
  let arg1 : BitVec 32 := BitVec.ofNat 32 (i 1).val
  let c10_i32 : BitVec 32 := 10#32
  let v87 : BitVec 1 := Scalar.cmpi .eq arg1 c10_i32
  let v88 : BitVec 32 := Scalar.extui v87
  let c0_i32_35 : BitVec 32 := 0#32
  let v89 : BitVec 1 := Scalar.cmpi .ne v88 c0_i32_35
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8192x2048 : Shape := ⟨3, ![4, 8192, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S4x8192x11264 : Shape := ⟨3, ![4, 8192, 11264]⟩
abbrev S4x8192x5632 : Shape := ⟨3, ![4, 8192, 5632]⟩
abbrev S_ : Shape := ⟨0, ![]⟩
abbrev S4x2x5632 : Shape := ⟨3, ![4, 2, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S4x8192x11264, .f32⟩
  | .hbm, ⟨8, _⟩ => ⟨S4x8192x5632, .f32⟩
  | .hbm, ⟨9, _⟩ => ⟨S4x8192x5632, .f32⟩
  | .hbm, ⟨10, _⟩ => ⟨S_, .f32⟩
  | .hbm, ⟨11, _⟩ => ⟨S4x2x5632, .f32⟩
  | .hbm, ⟨12, _⟩ => ⟨S4x8194x5632, .f32⟩
  | .hbm, ⟨13, _⟩ => ⟨S1x5632, .f32⟩
  | .hbm, ⟨14, _⟩ => ⟨S5632, .f32⟩
  | .hbm, ⟨15, _⟩ => ⟨S4x8192x5632, .f32⟩
  | .hbm, ⟨16, _⟩ => ⟨S1x1x5632, .f32⟩
  | .hbm, ⟨17, _⟩ => ⟨S4x8192x5632, .f32⟩
  | .hbm, ⟨18, _⟩ => ⟨S4x8192x5632, .f32⟩
  | .hbm, ⟨19, _⟩ => ⟨S1x1x5632, .f32⟩
  | .hbm, ⟨20, _⟩ => ⟨S4x8192x5632, .f32⟩
  | .hbm, ⟨21, _⟩ => ⟨S4x8192x5632, .f32⟩
  | .hbm, ⟨22, _⟩ => ⟨S1x5632, .f32⟩
  | .hbm, ⟨23, _⟩ => ⟨S5632, .f32⟩
  | .hbm, ⟨24, _⟩ => ⟨S4x8192x5632, .f32⟩
  | .hbm, ⟨25, _⟩ => ⟨S1x1x5632, .f32⟩
  | .hbm, ⟨26, _⟩ => ⟨S4x8192x5632, .f32⟩
  | .hbm, ⟨27, _⟩ => ⟨S4x8192x5632, .f32⟩
  | .hbm, ⟨28, _⟩ => ⟨S4x8192x5632, .f32⟩
  | .hbm, ⟨29, _⟩ => ⟨S1x5632, .f32⟩
  | .hbm, ⟨30, _⟩ => ⟨S5632, .f32⟩
  | .hbm, ⟨31, _⟩ => ⟨S4x8192x5632, .f32⟩
  | .hbm, ⟨32, _⟩ => ⟨S1x1x5632, .f32⟩
  | .hbm, ⟨33, _⟩ => ⟨S4x8192x5632, .f32⟩
  | .hbm, ⟨34, _⟩ => ⟨S4x8192x5632, .f32⟩
  | .hbm, ⟨35, _⟩ => ⟨S4x8192x5632, .f32⟩
  | .hbm, ⟨36, _⟩ => ⟨S4x8192x5632, .f32⟩
  | .hbm, ⟨37, _⟩ => ⟨S4x8192x5632, .f32⟩
  | .hbm, ⟨38, _⟩ => ⟨S_, .f32⟩
  | .hbm, ⟨39, _⟩ => ⟨S4x8192x5632, .f32⟩
  | .hbm, ⟨40, _⟩ => ⟨S4x8192x5632, .f32⟩
  | .hbm, ⟨41, _⟩ => ⟨S_, .f32⟩
  | .hbm, ⟨42, _⟩ => ⟨S4x8192x5632, .f32⟩
  | .hbm, ⟨43, _⟩ => ⟨S4x8192x5632, .f32⟩
  | .hbm, ⟨44, _⟩ => ⟨S4x8192x5632, .f32⟩
  | .hbm, ⟨45, _⟩ => ⟨S4x8192x5632, .f32⟩
  | .hbm, ⟨46, _⟩ => ⟨S4x8192x2048, .f32⟩
  | .hbm, ⟨47, _⟩ => ⟨S4x8192x2048, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x2048, .f32⟩
  | .hbm, ⟨59, _⟩ => ⟨S4x8192x2048, .f32⟩
  | .hbm, ⟨60, _⟩ => ⟨S1x1x2048, .f32⟩
  | .hbm, ⟨61, _⟩ => ⟨S4x8192x2048, .f32⟩
  | .hbm, ⟨62, _⟩ => ⟨S4x8192x2048, .f32⟩
  | .hbm, ⟨63, _⟩ => ⟨S4x8192x2048, .f32⟩
  | .hbm, ⟨64, _⟩ => ⟨S4x2x5632, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel3.lean ====
abbrev S4x8192x2048 : Shape := ⟨3, ![4, 8192, 2048]⟩
abbrev S2048 : Shape := ⟨1, ![2048]⟩
abbrev S2048x1088 : Shape := ⟨2, ![2048, 1088]⟩
abbrev S512 : Shape := ⟨1, ![512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8192x256 : Shape := ⟨2, ![8192, 256]⟩
abbrev S2048x64 : Shape := ⟨2, ![2048, 64]⟩
abbrev S2048x32 : Shape := ⟨2, ![2048, 32]⟩
abbrev S2048x1152 : Shape := ⟨2, ![2048, 1152]⟩
abbrev S32768x2048 : Shape := ⟨2, ![32768, 2048]⟩
abbrev S1x2048 : Shape := ⟨2, ![1, 2048]⟩
abbrev S1x512 : Shape := ⟨2, ![1, 512]⟩
abbrev S32768x512 : Shape := ⟨2, ![32768, 512]⟩
abbrev S32768x64 : Shape := ⟨2, ![32768, 64]⟩
abbrev S32768x128 : Shape := ⟨2, ![32768, 128]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S512x1 : Shape := ⟨2, ![512, 1]⟩
abbrev S512x1152 : Shape := ⟨2, ![512, 1152]⟩
abbrev S4x8192x512 : Shape := ⟨3, ![4, 8192, 512]⟩
abbrev S4x8192x64 : Shape := ⟨3, ![4, 8192, 64]⟩

abbrev nBuf : Space → Nat
  | .hbm => 45
  | .vmem => 18
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x64, .f32⟩
  | .hbm, ⟨23, _⟩ => ⟨S8192x32, .f32⟩
  | .hbm, ⟨24, _⟩ => ⟨S8192x64, .f32⟩
  | .hbm, ⟨25, _⟩ => ⟨S8192x128, .f32⟩
  | .hbm, ⟨26, _⟩ => ⟨S8192x256, .f32⟩
  | .hbm, ⟨27, _⟩ => ⟨S2048x64, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x1152, .f32⟩
  | .hbm, ⟨32, _⟩ => ⟨S2048x1152, .bf16⟩
  | .hbm, ⟨33, _⟩ => ⟨S32768x2048, .f32⟩
  | .hbm, ⟨34, _⟩ => ⟨S1x2048, .f32⟩
  | .hbm, ⟨35, _⟩ => ⟨S1x512, .f32⟩
  | .hbm, ⟨36, _⟩ => ⟨S1x512, .f32⟩
  | .hbm, ⟨37, _⟩ => ⟨S32768x512, .bf16⟩
  | .hbm, ⟨38, _⟩ => ⟨S32768x512, .f32⟩
  | .hbm, ⟨39, _⟩ => ⟨S32768x512, .bf16⟩
  | .hbm, ⟨40, _⟩ => ⟨S32768x64, .f32⟩
  | .hbm, ⟨41, _⟩ => ⟨S32768x128, .bf16⟩
  | .hbm, ⟨42, _⟩ => ⟨S4x8192x512, .bf16⟩
  | .hbm, ⟨43, _⟩ => ⟨S4x8192x512, .f32⟩
  | .hbm, ⟨44, _⟩ => ⟨S4x8192x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x64, .f32⟩
  | .local _ .vmem, ⟨15, _⟩ => ⟨S512x64, .f32⟩
  | .local _ .vmem, ⟨16, _⟩ => ⟨S512x128, .bf16⟩
  | .local _ .vmem, ⟨17, _⟩ => ⟨S512x128, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x2048 : Shape := ⟨3, ![4, 8192, 2048]⟩
abbrev S2048 : Shape := ⟨1, ![2048]⟩
abbrev S2048x1088 : Shape := ⟨2, ![2048, 1088]⟩
abbrev S512 : Shape := ⟨1, ![512]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x1088 : Shape := ⟨3, ![4, 8192, 1088]⟩
abbrev S4x8192x512 : Shape := ⟨3, ![4, 8192, 512]⟩
abbrev S1x1x512 : Shape := ⟨3, ![1, 1, 512]⟩
abbrev S4x8192x64 : Shape := ⟨3, ![4, 8192, 64]⟩
abbrev S4x8192x1x64 : Shape := ⟨4, ![4, 8192, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x1x32 : Shape := ⟨4, ![4, 8192, 1, 32]⟩
abbrev S1x8192x1x32 : Shape := ⟨4, ![1, 8192, 1, 32]⟩
abbrev S4x8192x1x0 : Shape := ⟨4, ![4, 8192, 1, 0]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S8192, .i32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x8192x1088, .f32⟩
  | .hbm, ⟨23, _⟩ => ⟨S4x8192x512, .f32⟩
  | .hbm, ⟨24, _⟩ => ⟨S4x8192x512, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x512, .f32⟩
  | .hbm, ⟨36, _⟩ => ⟨S4x8192x512, .f32⟩
  | .hbm, ⟨37, _⟩ => ⟨S1x1x512, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x512, .f32⟩
  | .hbm, ⟨53, _⟩ => ⟨S4x8192x512, .f32⟩
  | .hbm, ⟨54, _⟩ => ⟨S1x1x512, .f32⟩
  | .hbm, ⟨55, _⟩ => ⟨S4x8192x512, .f32⟩
  | .hbm, ⟨56, _⟩ => ⟨S4x8192x512, .f32⟩
  | .hbm, ⟨57, _⟩ => ⟨S4x8192x64, .f32⟩
  | .hbm, ⟨58, _⟩ => ⟨S4x8192x1x64, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S8192, .f32⟩
  | .hbm, ⟨68, _⟩ => ⟨S8192x1, .f32⟩
  | .hbm, ⟨69, _⟩ => ⟨S1x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x1x32, .f32⟩
  | .hbm, ⟨75, _⟩ => ⟨S8192x32, .f32⟩
  | .hbm, ⟨76, _⟩ => ⟨S8192x1x32, .f32⟩
  | .hbm, ⟨77, _⟩ => ⟨S4x8192x1x32, .f32⟩
  | .hbm, ⟨78, _⟩ => ⟨S4x8192x1x32, .f32⟩
  | .hbm, ⟨79, _⟩ => ⟨S1x8192x1x32, .f32⟩
  | .hbm, ⟨80, _⟩ => ⟨S4x8192x1x32, .f32⟩
  | .hbm, ⟨81, _⟩ => ⟨S4x8192x1x32, .f32⟩
  | .hbm, ⟨82, _⟩ => ⟨S1x8192x1x32, .f32⟩
  | .hbm, ⟨83, _⟩ => ⟨S4x8192x1x32, .f32⟩
  | .hbm, ⟨84, _⟩ => ⟨S4x8192x1x32, .f32⟩
  | .hbm, ⟨85, _⟩ => ⟨S4x8192x1x32, .f32⟩
  | .hbm, ⟨86, _⟩ => ⟨S1x8192x1x32, .f32⟩
  | .hbm, ⟨87, _⟩ => ⟨S4x8192x1x32, .f32⟩
  | .hbm, ⟨88, _⟩ => ⟨S4x8192x1x32, .f32⟩
  | .hbm, ⟨89, _⟩ => ⟨S1x8192x1x32, .f32⟩
  | .hbm, ⟨90, _⟩ => ⟨S4x8192x1x32, .f32⟩
  | .hbm, ⟨91, _⟩ => ⟨S4x8192x1x32, .f32⟩
  | .hbm, ⟨92, _⟩ => ⟨S4x8192x1x32, .f32⟩
  | .hbm, ⟨93, _⟩ => ⟨S4x8192x1x0, .f32⟩
  | .hbm, ⟨94, _⟩ => ⟨S4x8192x1x64, .f32⟩
  | .hbm, ⟨95, _⟩ => ⟨S4x8192x64, .f32⟩
  | .hbm, ⟨96, _⟩ => ⟨S4x8192x512, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]
-- ==== Kernel4.lean ====
abbrev S4x8192x2048 : Shape := ⟨3, ![4, 8192, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .bf16⟩
  | .hbm, ⟨7, _⟩ => ⟨S2048x2048, .bf16⟩
  | .hbm, ⟨8, _⟩ => ⟨S32768x2048, .f32⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .hbm, ⟨13, _⟩ => ⟨S4x8192x2048, .f32⟩
  | .hbm, ⟨14, _⟩ => ⟨S4x8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S4x8192x2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S1x1x2048, .f32⟩
  | .hbm, ⟨37, _⟩ => ⟨S4x8192x2048, .f32⟩
  | .hbm, ⟨38, _⟩ => ⟨S4x8192x2048, .f32⟩
  | .hbm, ⟨39, _⟩ => ⟨S4x8192x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.AttnPay.lean ====
module

public import proofs.«01_k».proof.Proof.Gen.KernelIdeal.Frame
public import Idealize.ShloMosaic.Lib.Pointwise

@[expose] public section

set_option maxRecDepth 16384

noncomputable section

namespace Cert.KernelIdeal.Att
open Idealize.ShloMosaic Idealize.SL.Sem Cert.KernelIdeal Cert.KernelIdeal.Gen
open Idealize.ShloMosaic.Pointwise

/-- One score block at key `a`, query `b`: the product of the no-position halves plus the product of the rotary halves. -/
theorem scores_apply (kp qn qp kn : FVec Ideal S512x128 .bf16) (a b : Fin 512) :
    k1_pay5 (F := Ideal) kp qn qp kn (ix2 a b)
      = (∑ d : Fin 128, (kn (ix2 a d) : EReal) * qn (ix2 b d)) + ∑ d : Fin 128, (kp (ix2 a d) : EReal) * qp (ix2 b d) := by
  pointwise [k1_pay5, k1_pay4]

/-- The running maximum after a block, at query `b`. -/
theorem newMax_apply (s : FVec Ideal S512x512 .f32) (m : FVec Ideal S1x1x512 .f32) (b : Fin 512) :
    k1_pay11 s m (ix2 0 b) = max (m (ix3 0 0 b) : EReal) (Finset.univ.fold max ⊥ fun a : Fin 512 => s (ix2 a b)) := by
  pointwise [k1_pay11, k1_pay10]
  have : Ideal.ofBits FTy.f32 0xFF800000#32 = ⊥ := by
    simp [Ideal.ofBits, Ideal.ieee]
  rw [this]

/-- The rescaling factor of a block, at query `b`. -/
theorem alpha_apply (s : FVec Ideal S512x512 .f32) (m : FVec Ideal S1x1x512 .f32) (b : Fin 512) :
    k1_pay12 s m (ix2 0 b) = Ideal.exp2 ((m (ix3 0 0 b) : EReal) - k1_pay11 s m (ix2 0 b)) := by
  pointwise [k1_pay12, k1_pay10]
  rfl

/-- The weights of a block, at key `a`, query `b`. -/
theorem weight_apply (s : FVec Ideal S512x512 .f32) (m : FVec Ideal S1x1x512 .f32) (a b : Fin 512) :
    k1_pay13 s m (ix2 a b) = Ideal.exp2 ((s (ix2 a b) : EReal) - k1_pay11 s m (ix2 0 b)) := by
  pointwise [k1_pay13]
  rfl

/-- The denominator after a block. -/
theorem newSum_apply (s : FVec Ideal S512x512 .f32) (m l : FVec Ideal S1x1x512 .f32) (b : Fin 512) :
    k1_pay14 s m l (ix3 0 0 b) = (k1_pay12 s m (ix2 0 b) : EReal) * l (ix3 0 0 b) + ∑ a : Fin 512, (k1_pay13 s m (ix2 a b) : EReal) := by
  pointwise [k1_pay14]

/-- The numerator after a block, at value column `d`. -/
theorem newAcc_apply (s : FVec Ideal S512x512 .f32) (m : FVec Ideal S1x1x512 .f32) (A : FVec Ideal S1x128x512 .f32)
    (vt : FVec Ideal S1x128x512 .bf16) (d : Fin 128) (b : Fin 512) :
    k1_pay16 (k1_pay15 s m A vt) (ix3 0 d b)
      = (k1_pay12 s m (ix2 0 b) : EReal) * A (ix3 0 d b) + ∑ a : Fin 512, (vt (ix3 0 d a) : EReal) * k1_pay13 s m (ix2 a b) := by
  pointwise [k1_pay16, k1_pay15]

/-- The stored running maximum. -/
theorem storeMax_apply (x : FVec Ideal S1x512 .f32) (b : Fin 512) : k1_pay17 x (ix3 0 0 b) = x (ix2 0 b) := by
  pointwise [k1_pay17]

/-- What one block does to the running softmax of one query: the scores `s`, the values `v`, the state before and after. -/
structure HeadStep (s : Fin 512 → EReal) (v : Fin 128 → Fin 512 → EReal) (M L : EReal) (A : Fin 128 → EReal)
    (M' L' : EReal) (A' : Fin 128 → EReal) : Prop where
  max_eq : M' = max M (Finset.univ.fold max ⊥ s)
  sum_eq : L' = Ideal.exp2 (M - M') * L + ∑ a, Ideal.exp2 (s a - M')
  acc_eq : ∀ d, A' d = Ideal.exp2 (M - M') * A d + ∑ a, v d a * Ideal.exp2 (s a - M')

/-- The stored payloads of one head are one block of the running softmax. -/
theorem pay_step (s : FVec Ideal S512x512 .f32) (m l : FVec Ideal S1x1x512 .f32) (A : FVec Ideal S1x128x512 .f32)
    (vt : FVec Ideal S1x128x512 .bf16) (b : Fin 512) :
    HeadStep (fun a => s (ix2 a b)) (fun d a => vt (ix3 0 d a)) (m (ix3 0 0 b)) (l (ix3 0 0 b)) (fun d => A (ix3 0 d b))
      (k1_pay17 (k1_pay11 s m) (ix3 0 0 b)) (k1_pay14 s m l (ix3 0 0 b)) (fun d => k1_pay16 (k1_pay15 s m A vt) (ix3 0 d b)) where
  max_eq := by rw [storeMax_apply, newMax_apply]
  sum_eq := by rw [storeMax_apply, newSum_apply, alpha_apply]; simp only [weight_apply]
  acc_eq d := by rw [storeMax_apply, newAcc_apply, alpha_apply]; simp only [weight_apply]

end Cert.KernelIdeal.Att
-- ==== Proof.AttnTrip.lean ====
module

public import proofs.«01_k».proof.Proof.AttnPay
public import Idealize.ShloMosaic.Lib.Pipeline.ValueKit

@[expose] public section

set_option maxRecDepth 16384

noncomputable section

namespace Cert.KernelIdeal.Att
open Idealize.ShloMosaic Idealize.SL.Sem Cert.KernelIdeal Cert.KernelIdeal.Gen
open Idealize.ShloMosaic.Pointwise

/-- Row `a` of key block `k`. -/
def key (k : ℕ) (a : Fin 512) : Fin 8192 := Fin.ofNat 8192 (512 * k + a)

/-- Column `d` of head `h` in a block of four heads. -/
def col (h : Fin 4) (d : Fin 128) : Fin 512 := ⟨128 * h + d, by omega⟩

/-- The score of key `key k a` at query `b` for head `h`, from the arrays the region reads. -/
def blkS (x0 x1 : FVec Ideal S512x512 .bf16) (x2 : FVec Ideal S8192x512 .bf16) (x3 : FVec Ideal S8192x128 .bf16)
    (k : ℕ) (h : Fin 4) (b a : Fin 512) : EReal :=
  (∑ d : Fin 128, (x2 (ix2 (key k a) (col h d)) : EReal) * x0 (ix2 b (col h d)))
    + ∑ d : Fin 128, (x3 (ix2 (key k a) (Fin.castLE (by decide) d)) : EReal) * x1 (ix2 b (col h d))

/-- The value column `d` of head `h` at row `a` of key block `k`. -/
def blkV (x4 : FVec Ideal S16x512x512 .bf16) (k : ℕ) (h : Fin 4) (d : Fin 128) (a : Fin 512) : EReal :=
  x4 (ix3 (Fin.ofNat 16 k) (col h d) a)

section
/-- Four writes, one per head, read back at a head. -/
theorem read_four {N : ℕ} {e : EltTy} {κ : Kind} {sp : Space} (v : View sig κ sp ⟨3, ![4, N, 512]⟩ e) (f : v.ty.Contents (Elt Ideal))
    (i0 i1 i2 i3)
    (g0 g1 g2 g3 : (⟨3, ![1, N, 512]⟩ : Shape).Idx → Elt Ideal e) (L : List (View.Piece (Elt Ideal) ⟨3, ![4, N, 512]⟩ e))
    (h : Fin 4) (r : Fin N) (b : Fin 512) :
    v.read (Elt Ideal) (v.writes (Elt Ideal) f
      (⟨Rect.unit ![3, 0, 0] (![1, N, 512]) i3, g3⟩ :: ⟨Rect.unit ![2, 0, 0] (![1, N, 512]) i2, g2⟩ ::
        ⟨Rect.unit ![1, 0, 0] (![1, N, 512]) i1, g1⟩ :: ⟨Rect.unit ![0, 0, 0] (![1, N, 512]) i0, g0⟩ :: L)) (ix3 h r b)
      = (![g0, g1, g2, g3] h) (ix3 0 r b) := by
  have hit : ∀ (o : ℕ) (i : ∀ a, (![o, 0, 0] : Fin 3 → ℕ) a + (![1, N, 512] : Fin 3 → ℕ) a ≤ (![4, N, 512] : Fin 3 → ℕ) a)
      (g : (⟨3, ![1, N, 512]⟩ : Shape).Idx → Elt Ideal e) (L : List (View.Piece (Elt Ideal) ⟨3, ![4, N, 512]⟩ e)) (h : Fin 4)
      (hh : h.val = o), v.read (Elt Ideal) (v.writes (Elt Ideal) f
        (⟨Rect.unit (s := ⟨3, ![4, N, 512]⟩) ![o, 0, 0] ![1, N, 512] i, g⟩ :: L)) (ix3 h r b) = g (ix3 0 r b) := by
    intro o i g L h hh
    refine View.read_writes_cons_hit_of_coords v f (Rect.unit (s := ⟨3, ![4, N, 512]⟩) ![o, 0, 0] ![1, N, 512] i) g L
      (ix3 0 r b) (ix3 h r b) fun a => ?_
    fin_cases a <;> simp [ix3, Rect.unit, hh]
  have miss : ∀ (o : ℕ) (i : ∀ a, (![o, 0, 0] : Fin 3 → ℕ) a + (![1, N, 512] : Fin 3 → ℕ) a ≤ (![4, N, 512] : Fin 3 → ℕ) a)
      (g : (⟨3, ![1, N, 512]⟩ : Shape).Idx → Elt Ideal e) (L : List (View.Piece (Elt Ideal) ⟨3, ![4, N, 512]⟩ e)) (h : Fin 4)
      (hh : h.val < o), v.read (Elt Ideal) (v.writes (Elt Ideal) f
        (⟨Rect.unit (s := ⟨3, ![4, N, 512]⟩) ![o, 0, 0] ![1, N, 512] i, g⟩ :: L)) (ix3 h r b)
          = v.read (Elt Ideal) (v.writes (Elt Ideal) f L) (ix3 h r b) := by
    intro o i g L h hh
    exact View.read_writes_cons_miss_of_axis v f _ _ _ (0 : Fin 3) o 1 rfl rfl rfl (.inl hh)
  fin_cases h
  · rw [miss 3 _ _ _ _ (by simp), miss 2 _ _ _ _ (by simp), miss 1 _ _ _ _ (by simp)]
    exact hit 0 _ _ _ _ rfl
  · rw [miss 3 _ _ _ _ (by simp), miss 2 _ _ _ _ (by simp)]
    exact hit 1 _ _ _ _ rfl
  · rw [miss 3 _ _ _ _ (by simp)]
    exact hit 2 _ _ _ _ rfl
  · exact hit 3 _ _ _ _ rfl

end

/-- A load of a rectangle of a matrix, read at an entry. -/
theorem readAt_two {m n p q : ℕ} {e : EltTy} {κ : Kind} {sp : Space} (v : View sig κ sp ⟨2, ![m, n]⟩ e) (f : v.ty.Contents (Elt Ideal))
    (off : Fin 2 → ℕ) (o0 o1 : ℕ) (ho : off = ![o0, o1]) (inb) (a : Fin p) (d : Fin q) (A : Fin m) (D : Fin n)
    (hA : A.val = o0 + a) (hD : D.val = o1 + d) :
    v.readAt (Elt Ideal) (Rect.unit (s := ⟨2, ![m, n]⟩) off ![p, q] inb).toLoadRect f (ix2 a d) = v.read (Elt Ideal) f (ix2 A D) := by
  subst ho
  refine View.ld_unit_apply_of (S := ⟨2, ![m, n]⟩) (v.read (Elt Ideal) f) _ _ _ _ _ fun x => ?_
  fin_cases x
  · exact hA
  · exact hD

/-- A load of a rectangle of a three-axis array, read at an entry. -/
theorem readAt_three {l m n u p q : ℕ} {e : EltTy} {κ : Kind} {sp : Space} (v : View sig κ sp ⟨3, ![l, m, n]⟩ e) (f : v.ty.Contents (Elt Ideal))
    (off : Fin 3 → ℕ) (o0 o1 o2 : ℕ) (ho : off = ![o0, o1, o2]) (inb) (z : Fin u) (a : Fin p) (d : Fin q) (Z : Fin l) (A : Fin m) (D : Fin n)
    (hZ : Z.val = o0 + z) (hA : A.val = o1 + a) (hD : D.val = o2 + d) :
    v.readAt (Elt Ideal) (Rect.unit (s := ⟨3, ![l, m, n]⟩) off ![u, p, q] inb).toLoadRect f (ix3 z a d) = v.read (Elt Ideal) f (ix3 Z A D) := by
  subst ho
  refine View.ld_unit_apply_of (S := ⟨3, ![l, m, n]⟩) (v.read (Elt Ideal) f) _ _ _ _ _ fun x => ?_
  fin_cases x
  · exact hZ
  · exact hA
  · exact hD

/-- A block of the running softmax, from what is loaded for it. -/
theorem head_of (S : FVec Ideal S512x512 .f32) (m l : FVec Ideal S1x1x512 .f32) (B : FVec Ideal S1x128x512 .f32)
    (vt : FVec Ideal S1x128x512 .bf16) (b : Fin 512) {s : Fin 512 → EReal} {v : Fin 128 → Fin 512 → EReal} {M L M' L' : EReal}
    {A A' : Fin 128 → EReal}
    (hM' : M' = k1_pay17 (k1_pay11 S m) (ix3 0 0 b)) (hL' : L' = k1_pay14 S m l (ix3 0 0 b))
    (hA' : ∀ d, A' d = k1_pay16 (k1_pay15 S m B vt) (ix3 0 d b))
    (hs : ∀ a, S (ix2 a b) = s a) (hv : ∀ d a, vt (ix3 0 d a) = v d a)
    (hM : m (ix3 0 0 b) = M) (hL : l (ix3 0 0 b) = L) (hA : ∀ d, B (ix3 0 d b) = A d) : HeadStep s v M L A M' L' A' := by
  have := pay_step S m l B vt b
  simp only [hs, hv, hM, hL, hA] at this
  rw [hM', hL', (funext hA' : A' = _)]
  exact this

/-- The score block, from what is loaded for it. -/
theorem scores_of (kp qn qp kn : FVec Ideal S512x128 .bf16) (a b : Fin 512) (KN QN KP QP : Fin 128 → EReal)
    (h1 : ∀ d, kn (ix2 a d) = KN d) (h2 : ∀ d, qn (ix2 b d) = QN d) (h3 : ∀ d, kp (ix2 a d) = KP d) (h4 : ∀ d, qp (ix2 b d) = QP d) :
    k1_pay5 (F := Ideal) kp qn qp kn (ix2 a b) = (∑ d, KN d * QN d) + ∑ d, KP d * QP d := by
  rw [scores_apply]; simp only [h1, h2, h3, h4]

section
variable (𝒱 : Variants) (c : Dev nD) (bd : Option 𝒱.V) (i : grid1.Coords) (arg3 : Memref sig .tc .vmem S512x512 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x128 .bf16) (harg6 : arg6.IsWhole) (arg7 : Memref sig .tc .vmem S16x512x512 .bf16) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k1_t1_loop i).trips) (f_arg9 : BufTy.Contents (Elt Ideal) arg9.view.ty) (f_arg10 : BufTy.Contents (Elt Ideal) arg10.view.ty) (f_arg11 : BufTy.Contents (Elt Ideal) arg11.view.ty)

set_option maxHeartbeats 1000000 in
/-- One trip of the loop over earlier key blocks, read at head `h`, query `b`: one block of the running softmax. -/
theorem trip_head (h : Fin 4) (b : Fin 512) :
    HeadStep (blkS (arg3.view.read (Elt Ideal) X_arg3) (arg4.view.read (Elt Ideal) X_arg4) (arg5.view.read (Elt Ideal) X_arg5)
        (arg6.view.read (Elt Ideal) X_arg6) k h b)
      (blkV (arg7.view.read (Elt Ideal) X_arg7) k h)
      (arg9.view.read (Elt Ideal) f_arg9 (ix3 h 0 b)) (arg10.view.read (Elt Ideal) f_arg10 (ix3 h 0 b))
      (fun d => arg11.view.read (Elt Ideal) f_arg11 (ix3 h d b))
      (arg9.view.read (Elt Ideal) (arg9.view.writes (Elt Ideal) f_arg9 (tripL_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 k f_arg9 f_arg10 f_arg11).1) (ix3 h 0 b))
      (arg10.view.read (Elt Ideal) (arg10.view.writes (Elt Ideal) f_arg10 (tripL_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 k f_arg9 f_arg10 f_arg11).2.1) (ix3 h 0 b))
      (fun d => arg11.view.read (Elt Ideal) (arg11.view.writes (Elt Ideal) f_arg11 (tripL_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 k f_arg9 f_arg10 f_arg11).2.2) (ix3 h d b)) := by
  unfold tripL_k1_t1; unfold trip_k1_t1; dsimp only
  have h9 := fun i0 i1 i2 i3 g0 g1 g2 g3 => read_four (N := 1) arg9.view f_arg9 i0 i1 i2 i3 g0 g1 g2 g3 [] h 0 b
  have h10 := fun i0 i1 i2 i3 g0 g1 g2 g3 => read_four (N := 1) arg10.view f_arg10 i0 i1 i2 i3 g0 g1 g2 g3 [] h 0 b
  have h11 := fun i0 i1 i2 i3 g0 g1 g2 g3 d => read_four (N := 128) arg11.view f_arg11 i0 i1 i2 i3 g0 g1 g2 g3 [] h d b
  erw [h9, h10]
  simp only [h11]
  have hk : k.val ≤ 15 := (k.isLt.trans_le (k1_t1_abs i).2.1).le
  have hkey : ∀ a, (key k a).val = 512 * k + a := fun a => Nat.mod_eq_of_lt (by omega)
  have hk16 : (Fin.ofNat 16 k.val).val = k := Nat.mod_eq_of_lt (by omega)
  fin_cases h
  all_goals
    refine head_of _ _ _ _ _ b rfl rfl (fun d => rfl) (fun a => ?_) (fun d a => ?_) ?_ ?_ (fun d => ?_)
    · refine scores_of _ _ _ _ a b _ _ _ _ (fun d => ?_) (fun d => ?_) (fun d => ?_) (fun d => ?_)
      · first
          | exact readAt_two _ _ _ _ _ (k1_off2_eq i k) _ _ _ _ _ (hkey a) rfl
          | exact readAt_two _ _ _ _ _ (k1_off3_eq i k) _ _ _ _ _ (hkey a) rfl
          | exact readAt_two _ _ _ _ _ (k1_off4_eq i k) _ _ _ _ _ (hkey a) rfl
          | exact readAt_two _ _ _ _ _ (k1_off5_eq i k) _ _ _ _ _ (hkey a) rfl
      · exact readAt_two _ _ _ _ _ rfl _ _ _ _ _ (by simp) rfl
      · exact readAt_two _ _ _ _ _ (k1_off1_eq i k) _ _ _ _ _ (hkey a) (by simp)
      · exact readAt_two _ _ _ _ _ rfl _ _ _ _ _ (by simp) rfl
    · first
        | exact readAt_three _ _ _ _ _ _ (k1_off6_eq i k) _ _ _ _ _ _ _ (by rw [hk16]; simp) rfl (by simp)
        | exact readAt_three _ _ _ _ _ _ (k1_off7_eq i k) _ _ _ _ _ _ _ (by rw [hk16]; simp) rfl (by simp)
        | exact readAt_three _ _ _ _ _ _ (k1_off8_eq i k) _ _ _ _ _ _ _ (by rw [hk16]; simp) rfl (by simp)
        | exact readAt_three _ _ _ _ _ _ (k1_off9_eq i k) _ _ _ _ _ _ _ (by rw [hk16]; simp) rfl (by simp)
    · exact readAt_three _ _ _ _ _ _ rfl _ _ _ _ _ _ _ (by simp) (by simp) (by simp)
    · exact readAt_three _ _ _ _ _ _ rfl _ _ _ _ _ _ _ (by simp) (by simp) (by simp)
    · exact readAt_three _ _ _ _ _ _ rfl _ _ _ _ _ _ _ (by simp) (by simp) (by simp)

end

end Cert.KernelIdeal.Att
-- ==== Proof.Math.lean ====
module

public import Idealize.ShloMosaic.Lib.Pointwise

@[expose] public section

noncomputable section

namespace Cert.Att
open Idealize.ShloMosaic

/-- A finite sum of real numbers, read in the extended reals. -/
theorem coe_sum {ι : Type} (t : Finset ι) (f : ι → ℝ) : ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- A masked score: the real number where the key is visible, minus infinity elsewhere. -/
def sc {ι : Type} (vis : ι → Prop) [DecidablePred vis] (t : ι → ℝ) (a : ι) : EReal := if vis a then (t a : EReal) else ⊥

/-- The state of the running softmax at one query: either nothing has been seen, or the numerators and the denominator are
those of the seen keys, scaled by two to the minus `M`. -/
def Good (M L : EReal) (A : Fin 128 → EReal) (den : ℝ) (num : Fin 128 → ℝ) : Prop :=
  (M = ⊥ ∧ L = 0 ∧ (∀ d, A d = 0) ∧ den = 0 ∧ ∀ d, num d = 0)
    ∨ ∃ r : ℝ, M = (r : EReal) ∧ L = ((den * (2 : ℝ) ^ (-r) : ℝ) : EReal) ∧ ∀ d, A d = ((num d * (2 : ℝ) ^ (-r) : ℝ) : EReal)

/-- The maximum of values none of which is plus infinity is not plus infinity. -/
theorem fold_max_ne_top {ι : Type} (t : Finset ι) (f : ι → EReal) (h : ∀ a, f a ≠ ⊤) : t.fold max ⊥ f ≠ ⊤ := by
  have : t.fold max ⊥ f < ⊤ := (Finset.fold_max_lt _).2 ⟨bot_lt_top, fun a _ => lt_top_iff_ne_top.2 (h a)⟩
  exact this.ne

/-- The maximum is at least each of its values. -/
theorem le_fold_max {ι : Type} (t : Finset ι) (f : ι → EReal) (a : ι) (ha : a ∈ t) : f a ≤ t.fold max ⊥ f :=
  (Finset.le_fold_max _).2 (.inr ⟨a, ha, le_rfl⟩)

/-- The power of two of a difference to a real maximum, at a masked score. -/
theorem exp2_sc_sub {ι : Type} (vis : ι → Prop) [DecidablePred vis] (t : ι → ℝ) (a : ι) (r : ℝ) :
    Ideal.exp2 (sc vis t a - (r : EReal)) = (((if vis a then (2 : ℝ) ^ t a else 0) * (2 : ℝ) ^ (-r) : ℝ) : EReal) := by
  unfold sc
  split_ifs
  · rw [← EReal.coe_sub, Ideal.exp2_coe, sub_eq_add_neg, ← Real.rpow_add (by norm_num)]; rfl
  · rw [EReal.bot_sub, Ideal.exp2_bot]; simp

/-- One block of the running softmax. -/
theorem Good.step {M L : EReal} {A : Fin 128 → EReal} {den : ℝ} {num : Fin 128 → ℝ} (hG : Good M L A den num)
    {n : ℕ} (vis : Fin n → Prop) [DecidablePred vis] (t : Fin n → ℝ) (v : Fin 128 → Fin n → ℝ) (a₀ : Fin n) (h₀ : vis a₀)
    (s : Fin n → EReal) (hs : ∀ a, s a = sc vis t a) (M' : EReal) (hM' : M' = max M (Finset.univ.fold max ⊥ s)) :
    Good M' (Ideal.exp2 (M - M') * L + ∑ a, Ideal.exp2 (s a - M'))
      (fun d => Ideal.exp2 (M - M') * A d + ∑ a, (v d a : EReal) * Ideal.exp2 (s a - M'))
      (den + ∑ a, if vis a then (2 : ℝ) ^ t a else 0) (fun d => num d + ∑ a, v d a * if vis a then (2 : ℝ) ^ t a else 0) := by
  have hsf : s = sc vis t := funext hs
  subst hsf
  have hst : ∀ a, sc vis t a ≠ ⊤ := fun a => by unfold sc; split_ifs <;> simp
  have hMt : M ≠ ⊤ := by rcases hG with ⟨rfl, -⟩ | ⟨r, rfl, -⟩ <;> simp
  have h1 : M' ≠ ⊤ := by
    rw [hM']
    exact (max_lt (lt_top_iff_ne_top.2 hMt) (lt_top_iff_ne_top.2 (fold_max_ne_top _ _ hst))).ne
  have h2 : M' ≠ ⊥ := by
    have : (t a₀ : EReal) ≤ M' := by
      rw [hM']
      refine le_trans ?_ (le_max_right _ _)
      have := le_fold_max Finset.univ (sc vis t) a₀ (Finset.mem_univ _)
      unfold sc at this ⊢
      rwa [if_pos h₀] at this
    intro h
    rw [h] at this
    exact absurd (le_bot_iff.1 this) (EReal.coe_ne_bot _)
  clear hM'
  lift M' to ℝ using ⟨h1, h2⟩
  right
  refine ⟨M', rfl, ?_, fun d => ?_⟩
  · simp only [exp2_sc_sub, ← coe_sum, ← Finset.sum_mul]
    rcases hG with ⟨rfl, rfl, -, rfl, -⟩ | ⟨r, rfl, rfl, -⟩
    · simp
    · rw [← EReal.coe_sub, Ideal.exp2_coe, ← EReal.coe_mul, ← EReal.coe_add, EReal.coe_eq_coe_iff]
      have : (2 : ℝ) ^ (r - M') * (den * 2 ^ (-r)) = den * 2 ^ (-M') := by
        rw [mul_left_comm, ← Real.rpow_add (by norm_num)]; ring_nf
      change (2 : ℝ) ^ (r - M') * (den * 2 ^ (-r)) + _ = _
      rw [this]; ring
  · simp only [exp2_sc_sub, ← EReal.coe_mul, ← coe_sum, ← mul_assoc, ← Finset.sum_mul]
    rcases hG with ⟨rfl, -, hA, rfl, hn⟩ | ⟨r, rfl, -, hA⟩
    · simp [hA, hn]
    · rw [hA, ← EReal.coe_sub, Ideal.exp2_coe, ← EReal.coe_mul, ← EReal.coe_add, EReal.coe_eq_coe_iff]
      have : (2 : ℝ) ^ (r - M') * (num d * 2 ^ (-r)) = num d * 2 ^ (-M') := by
        rw [mul_left_comm, ← Real.rpow_add (by norm_num)]; ring_nf
      change (2 : ℝ) ^ (r - M') * (num d * 2 ^ (-r)) + _ = _
      rw [this]; ring

/-- The quotient at the end. -/
theorem Good.quot {M L : EReal} {A : Fin 128 → EReal} {den : ℝ} {num : Fin 128 → ℝ} (hG : Good M L A den num) (hd : den ≠ 0)
    (d : Fin 128) : Ideal.div (A d) L = ((num d / den : ℝ) : EReal) := by
  rcases hG with ⟨-, -, -, h, -⟩ | ⟨r, -, rfl, hA⟩
  · exact absurd h hd
  · have h2 : (2 : ℝ) ^ (-r) ≠ 0 := (Real.rpow_pos_of_pos (by norm_num) _).ne'
    rw [hA, Ideal.div_coe (mul_ne_zero hd h2), ← EReal.coe_mul, EReal.coe_eq_coe_iff]
    field_simp

/-- The ordinary softmax over a finite set of keys, subtracting any real number and dividing each weight by the sum. -/
theorem softmax_sum {n : ℕ} (vis : Fin n → Prop) [DecidablePred vis] (t : Fin n → ℝ) (a₀ : Fin n) (h₀ : vis a₀) :
    ∃ r : ℝ, max ⊥ (Finset.univ.fold max ⊥ (sc vis t)) = (r : EReal) ∧
      (∀ a, Ideal.exp (sc vis t a - (r : EReal)) = (((if vis a then Real.exp (t a) else 0) * Real.exp (-r) : ℝ) : EReal)) ∧
      ∀ a, Ideal.div (Ideal.exp (sc vis t a - (r : EReal))) (∑ a, Ideal.exp (sc vis t a - (r : EReal)))
        = (((if vis a then Real.exp (t a) else 0) / ∑ a, (if vis a then Real.exp (t a) else 0) : ℝ) : EReal) := by
  have hst : ∀ a, sc vis t a ≠ ⊤ := fun a => by unfold sc; split_ifs <;> simp
  have h1 := fold_max_ne_top Finset.univ _ hst
  have h2 : Finset.univ.fold max ⊥ (sc vis t) ≠ ⊥ := by
    have := le_fold_max Finset.univ (sc vis t) a₀ (Finset.mem_univ _)
    intro h
    rw [h, le_bot_iff] at this
    unfold sc at this
    rw [if_pos h₀] at this
    exact absurd this (EReal.coe_ne_bot _)
  lift Finset.univ.fold max ⊥ (sc vis t) to ℝ using ⟨h1, h2⟩ with r hr
  have he : ∀ a, Ideal.exp (sc vis t a - (r : EReal)) = (((if vis a then Real.exp (t a) else 0) * Real.exp (-r) : ℝ) : EReal) := by
    intro a
    unfold sc
    split_ifs
    · rw [← EReal.coe_sub, Ideal.exp_coe, sub_eq_add_neg, Real.exp_add]
    · rw [EReal.bot_sub, Ideal.exp_bot]; simp
  refine ⟨r, by simp, he, fun a => ?_⟩
  simp only [he, ← coe_sum, ← Finset.sum_mul]
  have hpos : 0 < ∑ a, (if vis a then Real.exp (t a) else 0) := by
    refine Finset.sum_pos' (fun a _ => by split_ifs <;> positivity) ⟨a₀, Finset.mem_univ _, by rw [if_pos h₀]; positivity⟩
  rw [Ideal.div_coe (mul_ne_zero hpos.ne' (Real.exp_pos _).ne'), ← EReal.coe_mul, EReal.coe_eq_coe_iff]
  field_simp

end Cert.Att
-- ==== Proof.AttnLoop.lean ====
module

public import proofs.«01_k».proof.Proof.AttnTrip
public import proofs.«01_k».proof.Proof.Math
public import Idealize.ShloMosaic.Lib.Pipeline.ValueKit

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

/-! ## The loop -/

section
variable (𝒱 : Variants) (c : Dev nD) (bd : Option 𝒱.V) (i : grid1.Coords) (arg3 : Memref sig .tc .vmem S512x512 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x128 .bf16) (harg6 : arg6.IsWhole) (arg7 : Memref sig .tc .vmem S16x512x512 .bf16) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)
  (G9 : BufTy.Contents (Elt Ideal) arg9.view.ty) (G10 : BufTy.Contents (Elt Ideal) arg10.view.ty) (G11 : BufTy.Contents (Elt Ideal) arg11.view.ty)

/-- After `n` trips of the loop over earlier key blocks, the running softmax of head `h`, query `b` holds the sums over those blocks. -/
theorem loop_good (h : Fin 4) (b : Fin 512) (t : ℕ → Fin 512 → ℝ) (v : ℕ → Fin 128 → Fin 512 → ℝ)
    (ht : ∀ k a, blkS (arg3.view.read (Elt Ideal) X_arg3) (arg4.view.read (Elt Ideal) X_arg4) (arg5.view.read (Elt Ideal) X_arg5)
        (arg6.view.read (Elt Ideal) X_arg6) k h b a = (t k a : EReal))
    (hv : ∀ k d a, blkV (arg7.view.read (Elt Ideal) X_arg7) k h d a = (v k d a : EReal))
    (hG : Good (arg9.view.read (Elt Ideal) G9 (ix3 h 0 b)) (arg10.view.read (Elt Ideal) G10 (ix3 h 0 b))
      (fun d => arg11.view.read (Elt Ideal) G11 (ix3 h d b)) 0 fun _ => 0) (n : ℕ) (hn : n ≤ (k1_t1_loop i).trips) :
    Good (arg9.view.read (Elt Ideal) (arg9.view.writes (Elt Ideal) G9 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).1) (ix3 h 0 b))
      (arg10.view.read (Elt Ideal) (arg10.view.writes (Elt Ideal) G10 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).2.1) (ix3 h 0 b))
      (fun d => arg11.view.read (Elt Ideal) (arg11.view.writes (Elt Ideal) G11 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).2.2) (ix3 h d b))
      (∑ k ∈ Finset.range n, ∑ a, (2 : ℝ) ^ t k a) (fun d => ∑ k ∈ Finset.range n, ∑ a, v k d a * (2 : ℝ) ^ t k a) := by
  induction n with
  | zero => simpa [pb_k1_t1] using hG
  | succ n ih =>
    have hS := trip_head 𝒱 c bd i arg3 harg3 arg4 harg4 arg5 harg5 arg6 harg6 arg7 harg7 arg8 harg8 arg9 harg9 arg10 harg10 arg11 harg11 X_arg3 X_arg4 X_arg5 X_arg6 X_arg7 ⟨n, hn⟩ (arg9.view.writes (Elt Ideal) G9 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).1)
      (arg10.view.writes (Elt Ideal) G10 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).2.1)
      (arg11.view.writes (Elt Ideal) G11 (pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 n).2.2) h b
    have hst := (ih (by omega)).step (fun _ : Fin 512 => True) (t n) (v n) 0 trivial _
      (fun a => (ht n a).trans (by simp [sc])) _ hS.max_eq
    have e : pb_k1_t1 (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 (n + 1) = _ := pb_k1_t1_succ (F := Ideal) 𝒱 c bd i arg3 harg3 arg4 harg4 arg5 harg5 arg6 harg6 arg7 harg7 arg8 harg8 arg9 harg9 arg10 harg10 arg11 harg11 X_arg3 X_arg4 X_arg5 X_arg6 X_arg7 G9 G10 G11 ⟨n, hn⟩
    rw [e]
    simp only [View.writes_append, Finset.sum_range_succ]
    rw [hS.sum_eq, (funext hS.acc_eq : _ = _)]
    simpa only [if_true, hv] using hst

end

end Cert.KernelIdeal.Att
-- ==== Proof.AttnMask.lean ====
module

public import proofs.«01_k».proof.Proof.AttnTrip
public import proofs.«01_k».proof.Proof.Math

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

/-- Division by 64 rounded down, as the words compute it. -/
def fd (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- The masked score block. -/
theorem masked_apply (s : FVec Ideal S512x512 .f32) (a b : Fin 512) :
    k1_pay99 s (k1_pay97 (iota .tc S512x512 32 [0] iota_S512x512_d0_w32) 64#32 k1_pay95 k1_pay96) (k1_pay98 (F := Ideal)) (ix2 a b)
      = if a.val / 64 ≤ b.val / 64 then s (ix2 a b) else ⊥ := by
  pointwise [k1_pay99, k1_pay97, k1_pay95, k1_pay96, k1_pay98]
  have h64 : ∀ n : Fin 512, fd n.val = BitVec.ofNat 32 (n.val / 64) := by decide +kernel
  have hle : ∀ x y : Fin 8, IntOp.cmpi CmpIPredicate.sle (BitVec.ofNat 32 x.val) (BitVec.ofNat 32 y.val) = if x.val ≤ y.val then 1#1 else 0#1 := by
    decide +kernel
  have h := hle ⟨a.val / 64, by omega⟩ ⟨b.val / 64, by omega⟩
  rw [← h64 a, ← h64 b] at h
  refine (congrArg (fun c => Scalar.select c _ _) h).trans ?_
  have hm : (Named.named κ "mask" 0xF149F2CA#32 : Idealize.ShloMosaic.Ideal .f32) = (⊥ : EReal) := IdealRules.named_const.ideal_named_scalar _ _ _ _ rfl
  split_ifs
  · rfl
  · exact hm

/-- The loop over earlier key blocks makes as many trips as the query block's number. -/
theorem trips1 (i : grid1.Coords) : Scf.trips (k1_t1_loop i).lb (k1_t1_loop i).ub (k1_t1_loop i).st = (i 2).val := by
  have h : ∀ n : Fin 16, Scf.trips 0#32 (Scalar.addi 0#32 (Scalar.muli (Scalar.divsi (Scalar.subi (BitVec.ofNat 32 n.val) 0#32) 1#32) 1#32)) 1#32 = n.val := by
    decide +kernel
  exact h (i 2)

/-- The remainder loop makes none. -/
theorem trips2 (i : grid1.Coords) : Scf.trips (k1_t2_loop i).lb (k1_t2_loop i).ub (k1_t2_loop i).st = 0 := by
  have h : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)

section
variable {N : ℕ} {e : EltTy} {κ : Kind} {sp : Space} (v : View sig κ sp ⟨3, ![4, N, 512]⟩ e) (f : v.ty.Contents (Elt Ideal))
  (r : Fin N) (b : Fin 512)

/-- The newest write is to the head read. -/
theorem head_hit (o : ℕ) (i : ∀ a, (![o, 0, 0] : Fin 3 → ℕ) a + (![1, N, 512] : Fin 3 → ℕ) a ≤ (![4, N, 512] : Fin 3 → ℕ) a)
    (g : (⟨3, ![1, N, 512]⟩ : Shape).Idx → Elt Ideal e) (L : List (View.Piece (Elt Ideal) ⟨3, ![4, N, 512]⟩ e)) (h : Fin 4)
    (hh : h.val = o) : v.read (Elt Ideal) (v.writes (Elt Ideal) f
      (⟨Rect.unit (s := ⟨3, ![4, N, 512]⟩) ![o, 0, 0] ![1, N, 512] i, g⟩ :: L)) (ix3 h r b) = g (ix3 0 r b) := by
  refine View.read_writes_cons_hit_of_coords v f (Rect.unit (s := ⟨3, ![4, N, 512]⟩) ![o, 0, 0] ![1, N, 512] i) g L
    (ix3 0 r b) (ix3 h r b) fun a => ?_
  fin_cases a <;> simp [ix3, Rect.unit, hh]

/-- The newest write is to another head. -/
theorem head_miss (o : ℕ) (i : ∀ a, (![o, 0, 0] : Fin 3 → ℕ) a + (![1, N, 512] : Fin 3 → ℕ) a ≤ (![4, N, 512] : Fin 3 → ℕ) a)
    (g : (⟨3, ![1, N, 512]⟩ : Shape).Idx → Elt Ideal e) (L : List (View.Piece (Elt Ideal) ⟨3, ![4, N, 512]⟩ e)) (h : Fin 4)
    (hh : h.val < o ∨ o + 1 ≤ h.val) : v.read (Elt Ideal) (v.writes (Elt Ideal) f
      (⟨Rect.unit (s := ⟨3, ![4, N, 512]⟩) ![o, 0, 0] ![1, N, 512] i, g⟩ :: L)) (ix3 h r b)
        = v.read (Elt Ideal) (v.writes (Elt Ideal) f L) (ix3 h r b) :=
  View.read_writes_cons_miss_of_axis v f _ _ _ (0 : Fin 3) o 1 rfl rfl rfl hh

/-- A write to the whole buffer, read back. -/
theorem all_hit (i : ∀ a, (![0, 0, 0] : Fin 3 → ℕ) a + (![4, N, 512] : Fin 3 → ℕ) a ≤ (![4, N, 512] : Fin 3 → ℕ) a)
    (g : (⟨3, ![4, N, 512]⟩ : Shape).Idx → Elt Ideal e) (L : List (View.Piece (Elt Ideal) ⟨3, ![4, N, 512]⟩ e)) (h : Fin 4) :
    v.read (Elt Ideal) (v.writes (Elt Ideal) f
      (⟨Rect.unit (s := ⟨3, ![4, N, 512]⟩) ![0, 0, 0] ![4, N, 512] i, g⟩ :: L)) (ix3 h r b) = g (ix3 h r b) := by
  refine View.read_writes_cons_hit_of_coords v f (Rect.unit (s := ⟨3, ![4, N, 512]⟩) ![0, 0, 0] ![4, N, 512] i) g L
    (ix3 h r b) (ix3 h r b) fun a => ?_
  fin_cases a <;> simp [ix3, Rect.unit]

end

end Cert.KernelIdeal.Att
-- ==== Proof.AttnRun.lean ====
module

public import proofs.«01_k».proof.Proof.AttnLoop
public import proofs.«01_k».proof.Proof.AttnMask
public import Idealize.ShloMosaic.Lib.Pipeline.ValueKit

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

section
variable (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x128 .bf16) (harg6 : arg6.IsWhole) (arg7 : Memref sig .tc .vmem S16x512x512 .bf16) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole)
  (x0 x1 : Vec Ideal S512x512 .bf16) (x2 : Vec Ideal S8192x512 .bf16) (x3 : Vec Ideal S8192x128 .bf16) (x4 : Vec Ideal S16x512x512 .bf16)

/-- The writes to the three scratch buffers up to the end of the loop. -/
def loopPieces : List (View.Piece (Elt Ideal) S4x1x512 .f32) × List (View.Piece (Elt Ideal) S4x1x512 .f32) × List (View.Piece (Elt Ideal) S4x128x512 .f32) :=
  ((pb_k1_t1 (F := Ideal) Variants.none c none i arg3 harg3 arg4 harg4 arg5 harg5 arg6 harg6 arg7 harg7 arg8 harg8 arg9 harg9 arg10 harg10 arg11 harg11 (harg3.unread x0) (harg4.unread x1) (harg5.unread x2) (harg6.unread x3) (harg7.unread x4) (arg9.view.writes (Elt Ideal) arg9.view.junk kernelRun1_A.sl.HS0_1) (arg10.view.writes (Elt Ideal) arg10.view.junk kernelRun1_A.sl.HS1_1) (arg11.view.writes (Elt Ideal) arg11.view.junk kernelRun1_A.sl.HS2_1) (i 2).val).1 ++ kernelRun1_A.sl.HS0_1, (pb_k1_t1 (F := Ideal) Variants.none c none i arg3 harg3 arg4 harg4 arg5 harg5 arg6 harg6 arg7 harg7 arg8 harg8 arg9 harg9 arg10 harg10 arg11 harg11 (harg3.unread x0) (harg4.unread x1) (harg5.unread x2) (harg6.unread x3) (harg7.unread x4) (arg9.view.writes (Elt Ideal) arg9.view.junk kernelRun1_A.sl.HS0_1) (arg10.view.writes (Elt Ideal) arg10.view.junk kernelRun1_A.sl.HS1_1) (arg11.view.writes (Elt Ideal) arg11.view.junk kernelRun1_A.sl.HS2_1) (i 2).val).2.1 ++ kernelRun1_A.sl.HS1_1,
    (pb_k1_t1 (F := Ideal) Variants.none c none i arg3 harg3 arg4 harg4 arg5 harg5 arg6 harg6 arg7 harg7 arg8 harg8 arg9 harg9 arg10 harg10 arg11 harg11 (harg3.unread x0) (harg4.unread x1) (harg5.unread x2) (harg6.unread x3) (harg7.unread x4) (arg9.view.writes (Elt Ideal) arg9.view.junk kernelRun1_A.sl.HS0_1) (arg10.view.writes (Elt Ideal) arg10.view.junk kernelRun1_A.sl.HS1_1) (arg11.view.writes (Elt Ideal) arg11.view.junk kernelRun1_A.sl.HS2_1) (i 2).val).2.2 ++ kernelRun1_A.sl.HS2_1)

/-- The running maximum's pieces. -/
theorem maxPieces_eq : kernelRun1_A.sl.HS0_1_1 (F := Ideal) c i arg3 harg3 arg4 harg4 arg5 harg5 arg6 harg6 arg7 harg7 arg8 harg8 arg9 harg9 arg10 harg10 arg11 harg11 x0 x1 x2 x3 x4
    = ⟨Rect.unit ![0, 0, 0] S1x1x512.size inb_S4x1x512_S1x1x512_0_0_0, k1_pay106 (kernelRun1_A.sl.r_7 c i arg3 harg3 arg4 harg4 arg5 harg5 arg6 harg6 arg7 harg7 arg8 harg8 arg9 harg9 arg10 harg10 arg11 harg11 x0 x1 x2 x3 x4)⟩
      :: (loopPieces c i arg3 harg3 arg4 harg4 arg5 harg5 arg6 harg6 arg7 harg7 arg8 harg8 arg9 harg9 arg10 harg10 arg11 harg11 x0 x1 x2 x3 x4).1 := by
  unfold kernelRun1_A.sl.HS0_1_1 loopPieces
  rw [trips2 i, trips1 i]
  rfl

/-- The denominator's pieces. -/
theorem sumPieces_eq : kernelRun1_A.sl.HS1_1_1 (F := Ideal) c i arg3 harg3 arg4 harg4 arg5 harg5 arg6 harg6 arg7 harg7 arg8 harg8 arg9 harg9 arg10 harg10 arg11 harg11 x0 x1 x2 x3 x4
    = ⟨Rect.unit ![0, 0, 0] S1x1x512.size inb_S4x1x512_S1x1x512_0_0_0,
        k1_pay104 (kernelRun1_A.sl.r_2 i arg3 harg3 arg4 harg4 arg5 harg5 arg6 harg6 x0 x1 x2 x3) kernelRun1_A.sl.r_6 k1_pay98
          (kernelRun1_A.sl.v115 c i arg3 harg3 arg4 harg4 arg5 harg5 arg6 harg6 arg7 harg7 arg8 harg8 arg9 harg9 arg10 harg10 arg11 harg11 x0 x1 x2 x3 x4) (kernelRun1_A.sl.v125 c i arg3 harg3 arg4 harg4 arg5 harg5 arg6 harg6 arg7 harg7 arg8 harg8 arg9 harg9 arg10 harg10 arg11 harg11 x0 x1 x2 x3 x4)⟩
      :: (loopPieces c i arg3 harg3 arg4 harg4 arg5 harg5 arg6 harg6 arg7 harg7 arg8 harg8 arg9 harg9 arg10 harg10 arg11 harg11 x0 x1 x2 x3 x4).2.1 := by
  unfold kernelRun1_A.sl.HS1_1_1 loopPieces
  rw [trips2 i, trips1 i]
  rfl

/-- The numerator's pieces. -/
theorem accPieces_eq : kernelRun1_A.sl.HS2_1_1 (F := Ideal) c i arg3 harg3 arg4 harg4 arg5 harg5 arg6 harg6 arg7 harg7 arg8 harg8 arg9 harg9 arg10 harg10 arg11 harg11 x0 x1 x2 x3 x4
    = ⟨Rect.unit ![0, 0, 0] S1x128x512.size inb_S4x128x512_S1x128x512_0_0_0,
        k1_pay105 (kernelRun1_A.sl.r_2 i arg3 harg3 arg4 harg4 arg5 harg5 arg6 harg6 x0 x1 x2 x3) kernelRun1_A.sl.r_6 k1_pay98
          (kernelRun1_A.sl.v115 c i arg3 harg3 arg4 harg4 arg5 harg5 arg6 harg6 arg7 harg7 arg8 harg8 arg9 harg9 arg10 harg10 arg11 harg11 x0 x1 x2 x3 x4) (kernelRun1_A.sl.v134 c i arg3 harg3 arg4 harg4 arg5 harg5 arg6 harg6 arg7 harg7 arg8 harg8 arg9 harg9 arg10 harg10 arg11 harg11 x0 x1 x2 x3 x4)
          (View.readAt (Elt Ideal) arg7.view (Rect.unit (s := S16x512x512) (k1_off24 i) S1x128x512.size (k1_off24_inb i)).toLoadRect (harg7.unread x4))⟩
      :: (loopPieces c i arg3 harg3 arg4 harg4 arg5 harg5 arg6 harg6 arg7 harg7 arg8 harg8 arg9 harg9 arg10 harg10 arg11 harg11 x0 x1 x2 x3 x4).2.2 := by
  unfold kernelRun1_A.sl.HS2_1_1 loopPieces
  rw [trips2 i, trips1 i]
  rfl

/-- The running maximum, loaded. -/
theorem maxLoad_eq : kernelRun1_A.sl.v115 (F := Ideal) c i arg3 harg3 arg4 harg4 arg5 harg5 arg6 harg6 arg7 harg7 arg8 harg8 arg9 harg9 arg10 harg10 arg11 harg11 x0 x1 x2 x3 x4
    = arg9.view.readCov (loopPieces c i arg3 harg3 arg4 harg4 arg5 harg5 arg6 harg6 arg7 harg7 arg8 harg8 arg9 harg9 arg10 harg10 arg11 harg11 x0 x1 x2 x3 x4).1 (Rect.unit (s := S4x1x512) ![0, 0, 0] S1x1x512.size inb_S4x1x512_S1x1x512_0_0_0).toLoadRect := by
  unfold kernelRun1_A.sl.v115 loopPieces
  rw [trips2 i, trips1 i]
  rfl

/-- The denominator, loaded. -/
theorem sumLoad_eq : kernelRun1_A.sl.v125 (F := Ideal) c i arg3 harg3 arg4 harg4 arg5 harg5 arg6 harg6 arg7 harg7 arg8 harg8 arg9 harg9 arg10 harg10 arg11 harg11 x0 x1 x2 x3 x4
    = arg10.view.readCov (loopPieces c i arg3 harg3 arg4 harg4 arg5 harg5 arg6 harg6 arg7 harg7 arg8 harg8 arg9 harg9 arg10 harg10 arg11 harg11 x0 x1 x2 x3 x4).2.1 (Rect.unit (s := S4x1x512) ![0, 0, 0] S1x1x512.size inb_S4x1x512_S1x1x512_0_0_0).toLoadRect := by
  unfold kernelRun1_A.sl.v125 loopPieces
  rw [trips2 i, trips1 i]
  rfl

/-- The numerator, loaded. -/
theorem accLoad_eq : kernelRun1_A.sl.v134 (F := Ideal) c i arg3 harg3 arg4 harg4 arg5 harg5 arg6 harg6 arg7 harg7 arg8 harg8 arg9 harg9 arg10 harg10 arg11 harg11 x0 x1 x2 x3 x4
    = arg11.view.readCov (loopPieces c i arg3 harg3 arg4 harg4 arg5 harg5 arg6 harg6 arg7 harg7 arg8 harg8 arg9 harg9 arg10 harg10 arg11 harg11 x0 x1 x2 x3 x4).2.2 (Rect.unit (s := S4x128x512) ![0, 0, 0] S1x128x512.size inb_S4x128x512_S1x128x512_0_0_0).toLoadRect := by
  unfold kernelRun1_A.sl.v134 loopPieces
  rw [trips2 i, trips1 i]
  rfl

/-- The three scratch buffers after the loop, read at a head and query. -/
def stM (h : Fin 4) (b : Fin 512) : EReal :=
  arg9.view.read (Elt Ideal) (arg9.view.writes (Elt Ideal) arg9.view.junk (loopPieces c i arg3 harg3 arg4 harg4 arg5 harg5 arg6 harg6 arg7 harg7 arg8 harg8 arg9 harg9 arg10 harg10 arg11 harg11 x0 x1 x2 x3 x4).1) (ix3 h 0 b)
@[inherit_doc stM] def stL (h : Fin 4) (b : Fin 512) : EReal :=
  arg10.view.read (Elt Ideal) (arg10.view.writes (Elt Ideal) arg10.view.junk (loopPieces c i arg3 harg3 arg4 harg4 arg5 harg5 arg6 harg6 arg7 harg7 arg8 harg8 arg9 harg9 arg10 harg10 arg11 harg11 x0 x1 x2 x3 x4).2.1) (ix3 h 0 b)
@[inherit_doc stM] def stA (h : Fin 4) (b : Fin 512) (d : Fin 128) : EReal :=
  arg11.view.read (Elt Ideal) (arg11.view.writes (Elt Ideal) arg11.view.junk (loopPieces c i arg3 harg3 arg4 harg4 arg5 harg5 arg6 harg6 arg7 harg7 arg8 harg8 arg9 harg9 arg10 harg10 arg11 harg11 x0 x1 x2 x3 x4).2.2) (ix3 h d b)

/-- The loop leaves the running softmax over the earlier key blocks. -/
theorem loop_end (h : Fin 4) (b : Fin 512) (t : ℕ → Fin 512 → ℝ) (v : ℕ → Fin 128 → Fin 512 → ℝ)
    (ht : ∀ k a, blkS x0 x1 x2 x3 k h b a = (t k a : EReal)) (hv : ∀ k d a, blkV x4 k h d a = (v k d a : EReal)) :
    Good (stM c i arg3 harg3 arg4 harg4 arg5 harg5 arg6 harg6 arg7 harg7 arg8 harg8 arg9 harg9 arg10 harg10 arg11 harg11 x0 x1 x2 x3 x4 h b) (stL c i arg3 harg3 arg4 harg4 arg5 harg5 arg6 harg6 arg7 harg7 arg8 harg8 arg9 harg9 arg10 harg10 arg11 harg11 x0 x1 x2 x3 x4 h b) (stA c i arg3 harg3 arg4 harg4 arg5 harg5 arg6 harg6 arg7 harg7 arg8 harg8 arg9 harg9 arg10 harg10 arg11 harg11 x0 x1 x2 x3 x4 h b)
      (∑ k ∈ Finset.range (i 2).val, ∑ a, (2 : ℝ) ^ t k a) (fun d => ∑ k ∈ Finset.range (i 2).val, ∑ a, v k d a * (2 : ℝ) ^ t k a) := by
  have hm : (Named.named (F := Ideal) κ "mask" 0xF149F2CA#32 : Idealize.ShloMosaic.Ideal .f32) = (⊥ : EReal) :=
    IdealRules.named_const.ideal_named_scalar _ _ _ _ rfl
  have h0 := loop_good Variants.none c none i arg3 harg3 arg4 harg4 arg5 harg5 arg6 harg6 arg7 harg7 arg8 harg8 arg9 harg9 arg10 harg10 arg11 harg11 (harg3.unread x0) (harg4.unread x1) (harg5.unread x2) (harg6.unread x3) (harg7.unread x4) (arg9.view.writes (Elt Ideal) arg9.view.junk kernelRun1_A.sl.HS0_1)
    (arg10.view.writes (Elt Ideal) arg10.view.junk kernelRun1_A.sl.HS1_1)
    (arg11.view.writes (Elt Ideal) arg11.view.junk kernelRun1_A.sl.HS2_1) h b t v
    (by simpa only [harg3.read_unread, harg4.read_unread, harg5.read_unread, harg6.read_unread] using ht)
    (by simpa only [harg7.read_unread] using hv)
    (.inl ⟨by
        refine (all_hit (N := 1) arg9.view arg9.view.junk 0 b _ (k1_pay82 (F := Ideal)) [] h).trans ?_
        pointwise [k1_pay82]
        exact hm, by
        refine (all_hit (N := 1) arg10.view arg10.view.junk 0 b _ (k1_pay83 (F := Ideal)) [] h).trans ?_
        pointwise [k1_pay83], fun d => by
        refine (all_hit (N := 128) arg11.view arg11.view.junk d b _ (k1_pay84 (F := Ideal)) [] h).trans ?_
        pointwise [k1_pay84], rfl, fun _ => rfl⟩) (i 2).val (trips1 i).ge
  unfold stM stL stA loopPieces
  simp only [View.writes_append]
  exact h0

/-- The scores of the query's own key block, masked by chunk. -/
def ownS (h : Fin 4) (b a : Fin 512) : EReal := if a.val / 64 ≤ b.val / 64 then blkS x0 x1 x2 x3 (i 2).val h b a else ⊥

/-- The masked score block, from what is loaded for it. -/
theorem masked_of (kp qn qp kn : FVec Ideal S512x128 .bf16) (a b : Fin 512) (KN QN KP QP : Fin 128 → EReal)
    (h1 : ∀ d, kn (ix2 a d) = KN d) (h2 : ∀ d, qn (ix2 b d) = QN d) (h3 : ∀ d, kp (ix2 a d) = KP d) (h4 : ∀ d, qp (ix2 b d) = QP d) :
    k1_pay99 (k1_pay5 (F := Ideal) kp qn qp kn) (k1_pay97 (iota .tc S512x512 32 [0] iota_S512x512_d0_w32) 64#32 k1_pay95 k1_pay96)
        (k1_pay98 (F := Ideal)) (ix2 a b)
      = if a.val / 64 ≤ b.val / 64 then (∑ d, KN d * QN d) + ∑ d, KP d * QP d else ⊥ := by
  rw [masked_apply, scores_of kp qn qp kn a b KN QN KP QP h1 h2 h3 h4]

set_option maxHeartbeats 2000000 in
/-- The masked block of head `h`: one block of the running softmax over the query's own key block. -/
theorem mask_head (h : Fin 4) (b : Fin 512) : ∃ M', HeadStep (ownS i x0 x1 x2 x3 h b) (blkV x4 (i 2).val h)
    (stM c i arg3 harg3 arg4 harg4 arg5 harg5 arg6 harg6 arg7 harg7 arg8 harg8 arg9 harg9 arg10 harg10 arg11 harg11 x0 x1 x2 x3 x4 h b) (stL c i arg3 harg3 arg4 harg4 arg5 harg5 arg6 harg6 arg7 harg7 arg8 harg8 arg9 harg9 arg10 harg10 arg11 harg11 x0 x1 x2 x3 x4 h b) (stA c i arg3 harg3 arg4 harg4 arg5 harg5 arg6 harg6 arg7 harg7 arg8 harg8 arg9 harg9 arg10 harg10 arg11 harg11 x0 x1 x2 x3 x4 h b) M'
    (arg10.view.read (Elt Ideal) (arg10.view.writes (Elt Ideal) arg10.view.junk (kernelRun1_A.sl.HS1_4 c i arg3 harg3 arg4 harg4 arg5 harg5 arg6 harg6 arg7 harg7 arg8 harg8 arg9 harg9 arg10 harg10 arg11 harg11 x0 x1 x2 x3 x4)) (ix3 h 0 b))
    (fun d => arg11.view.read (Elt Ideal) (arg11.view.writes (Elt Ideal) arg11.view.junk (kernelRun1_A.sl.HS2_4 c i arg3 harg3 arg4 harg4 arg5 harg5 arg6 harg6 arg7 harg7 arg8 harg8 arg9 harg9 arg10 harg10 arg11 harg11 x0 x1 x2 x3 x4)) (ix3 h d b)) := by
  have hi : (i 2).val < 16 := (i 2).isLt
  have hkey : ∀ a, (key (i 2).val a).val = 512 * (i 2).val + a := fun a => Nat.mod_eq_of_lt (by omega)
  have hk16 : (Fin.ofNat 16 (i 2).val).val = (i 2).val := Nat.mod_eq_of_lt (by omega)
  unfold kernelRun1_A.sl.HS1_4 kernelRun1_A.sl.HS2_4 kernelRun1_A.sl.HS1_3 kernelRun1_A.sl.HS2_3 kernelRun1_A.sl.HS1_2 kernelRun1_A.sl.HS2_2
  rw [sumPieces_eq, accPieces_eq]
  rcases (by decide +revert : h = 0 ∨ h = 1 ∨ h = 2 ∨ h = 3) with rfl | rfl | rfl | rfl
  · refine ⟨_, head_of _ _ _ _ _ b rfl ((head_miss (N := 1) _ _ 0 b 3 _ _ _ 0 (by decide)).trans <| (head_miss (N := 1) _ _ 0 b 2 _ _ _ 0 (by decide)).trans <| (head_miss (N := 1) _ _ 0 b 1 _ _ _ 0 (by decide)).trans <| head_hit (N := 1) _ _ 0 b 0 _ _ _ 0 rfl)
      (fun d => (head_miss (N := 128) _ _ d b 3 _ _ _ 0 (by decide)).trans <| (head_miss (N := 128) _ _ d b 2 _ _ _ 0 (by decide)).trans <| (head_miss (N := 128) _ _ d b 1 _ _ _ 0 (by decide)).trans <| head_hit (N := 128) _ _ d b 0 _ _ _ 0 rfl) (fun a => ?_) (fun d a => ?_) ?_ ?_ (fun d => ?_)⟩
    · exact masked_of _ _ _ _ a b _ _ _ _
        (fun d => (readAt_two _ _ _ _ _ (k1_off20_eq i) _ _ _ (key (i 2).val a) (col 0 d) (hkey a) rfl).trans (congrFun (harg5.read_unread x2) _))
        (fun d => (readAt_two _ _ _ _ _ rfl _ _ _ b (col 0 d) (by simp) rfl).trans (congrFun (harg3.read_unread x0) _))
        (fun d => (readAt_two _ _ _ _ _ (k1_off19_eq i) _ _ _ (key (i 2).val a) (Fin.castLE (by decide) d) (hkey a) (by simp)).trans (congrFun (harg6.read_unread x3) _))
        (fun d => (readAt_two _ _ _ _ _ rfl _ _ _ b (col 0 d) (by simp) rfl).trans (congrFun (harg4.read_unread x1) _))
    · exact (readAt_three _ _ _ _ _ _ (k1_off24_eq i) _ _ _ _ (Fin.ofNat 16 (i 2).val) (col 0 d) a (by rw [hk16]; simp) rfl (by simp)).trans (congrFun (harg7.read_unread x4) _)
    · rw [maxLoad_eq]; exact readAt_three _ _ _ _ _ _ rfl _ _ _ _ 0 0 b (by simp) (by simp) (by simp)
    · rw [sumLoad_eq]; exact readAt_three _ _ _ _ _ _ rfl _ _ _ _ 0 0 b (by simp) (by simp) (by simp)
    · rw [accLoad_eq]; exact readAt_three _ _ _ _ _ _ rfl _ _ _ _ 0 d b (by simp) (by simp) (by simp)
  · refine ⟨_, head_of _ _ _ _ _ b rfl ((head_miss (N := 1) _ _ 0 b 3 _ _ _ 1 (by decide)).trans <| (head_miss (N := 1) _ _ 0 b 2 _ _ _ 1 (by decide)).trans <| head_hit (N := 1) _ _ 0 b 1 _ _ _ 1 rfl)
      (fun d => (head_miss (N := 128) _ _ d b 3 _ _ _ 1 (by decide)).trans <| (head_miss (N := 128) _ _ d b 2 _ _ _ 1 (by decide)).trans <| head_hit (N := 128) _ _ d b 1 _ _ _ 1 rfl) (fun a => ?_) (fun d a => ?_) ?_ ?_ (fun d => ?_)⟩
    · exact masked_of _ _ _ _ a b _ _ _ _
        (fun d => (readAt_two _ _ _ _ _ (k1_off21_eq i) _ _ _ (key (i 2).val a) (col 1 d) (hkey a) rfl).trans (congrFun (harg5.read_unread x2) _))
        (fun d => (readAt_two _ _ _ _ _ rfl _ _ _ b (col 1 d) (by simp) rfl).trans (congrFun (harg3.read_unread x0) _))
        (fun d => (readAt_two _ _ _ _ _ (k1_off19_eq i) _ _ _ (key (i 2).val a) (Fin.castLE (by decide) d) (hkey a) (by simp)).trans (congrFun (harg6.read_unread x3) _))
        (fun d => (readAt_two _ _ _ _ _ rfl _ _ _ b (col 1 d) (by simp) rfl).trans (congrFun (harg4.read_unread x1) _))
    · exact (readAt_three _ _ _ _ _ _ (k1_off25_eq i) _ _ _ _ (Fin.ofNat 16 (i 2).val) (col 1 d) a (by rw [hk16]; simp) rfl (by simp)).trans (congrFun (harg7.read_unread x4) _)
    · refine (readAt_three _ _ _ _ _ _ rfl _ _ _ _ 1 0 b (by simp) (by simp) (by simp)).trans ?_
      skip
      rw [maxPieces_eq]
      exact (head_miss (N := 1) _ _ 0 b 0 _ _ _ 1 (by decide)).trans rfl
    · refine (readAt_three _ _ _ _ _ _ rfl _ _ _ _ 1 0 b (by simp) (by simp) (by simp)).trans ?_
      skip
      rw [sumPieces_eq]
      exact (head_miss (N := 1) _ _ 0 b 0 _ _ _ 1 (by decide)).trans rfl
    · refine (readAt_three _ _ _ _ _ _ rfl _ _ _ _ 1 d b (by simp) (by simp) (by simp)).trans ?_
      skip
      rw [accPieces_eq]
      exact (head_miss (N := 128) _ _ d b 0 _ _ _ 1 (by decide)).trans rfl
  · refine ⟨_, head_of _ _ _ _ _ b rfl ((head_miss (N := 1) _ _ 0 b 3 _ _ _ 2 (by decide)).trans <| head_hit (N := 1) _ _ 0 b 2 _ _ _ 2 rfl)
      (fun d => (head_miss (N := 128) _ _ d b 3 _ _ _ 2 (by decide)).trans <| head_hit (N := 128) _ _ d b 2 _ _ _ 2 rfl) (fun a => ?_) (fun d a => ?_) ?_ ?_ (fun d => ?_)⟩
    · exact masked_of _ _ _ _ a b _ _ _ _
        (fun d => (readAt_two _ _ _ _ _ (k1_off22_eq i) _ _ _ (key (i 2).val a) (col 2 d) (hkey a) rfl).trans (congrFun (harg5.read_unread x2) _))
        (fun d => (readAt_two _ _ _ _ _ rfl _ _ _ b (col 2 d) (by simp) rfl).trans (congrFun (harg3.read_unread x0) _))
        (fun d => (readAt_two _ _ _ _ _ (k1_off19_eq i) _ _ _ (key (i 2).val a) (Fin.castLE (by decide) d) (hkey a) (by simp)).trans (congrFun (harg6.read_unread x3) _))
        (fun d => (readAt_two _ _ _ _ _ rfl _ _ _ b (col 2 d) (by simp) rfl).trans (congrFun (harg4.read_unread x1) _))
    · exact (readAt_three _ _ _ _ _ _ (k1_off26_eq i) _ _ _ _ (Fin.ofNat 16 (i 2).val) (col 2 d) a (by rw [hk16]; simp) rfl (by simp)).trans (congrFun (harg7.read_unread x4) _)
    · refine (readAt_three _ _ _ _ _ _ rfl _ _ _ _ 2 0 b (by simp) (by simp) (by simp)).trans ?_
      unfold kernelRun1_A.sl.HS0_2
      rw [maxPieces_eq]
      exact (head_miss (N := 1) _ _ 0 b 1 _ _ _ 2 (by decide)).trans <| (head_miss (N := 1) _ _ 0 b 0 _ _ _ 2 (by decide)).trans rfl
    · refine (readAt_three _ _ _ _ _ _ rfl _ _ _ _ 2 0 b (by simp) (by simp) (by simp)).trans ?_
      unfold kernelRun1_A.sl.HS1_2
      rw [sumPieces_eq]
      exact (head_miss (N := 1) _ _ 0 b 1 _ _ _ 2 (by decide)).trans <| (head_miss (N := 1) _ _ 0 b 0 _ _ _ 2 (by decide)).trans rfl
    · refine (readAt_three _ _ _ _ _ _ rfl _ _ _ _ 2 d b (by simp) (by simp) (by simp)).trans ?_
      unfold kernelRun1_A.sl.HS2_2
      rw [accPieces_eq]
      exact (head_miss (N := 128) _ _ d b 1 _ _ _ 2 (by decide)).trans <| (head_miss (N := 128) _ _ d b 0 _ _ _ 2 (by decide)).trans rfl
  · refine ⟨_, head_of _ _ _ _ _ b rfl (head_hit (N := 1) _ _ 0 b 3 _ _ _ 3 rfl)
      (fun d => head_hit (N := 128) _ _ d b 3 _ _ _ 3 rfl) (fun a => ?_) (fun d a => ?_) ?_ ?_ (fun d => ?_)⟩
    · exact masked_of _ _ _ _ a b _ _ _ _
        (fun d => (readAt_two _ _ _ _ _ (k1_off23_eq i) _ _ _ (key (i 2).val a) (col 3 d) (hkey a) rfl).trans (congrFun (harg5.read_unread x2) _))
        (fun d => (readAt_two _ _ _ _ _ rfl _ _ _ b (col 3 d) (by simp) rfl).trans (congrFun (harg3.read_unread x0) _))
        (fun d => (readAt_two _ _ _ _ _ (k1_off19_eq i) _ _ _ (key (i 2).val a) (Fin.castLE (by decide) d) (hkey a) (by simp)).trans (congrFun (harg6.read_unread x3) _))
        (fun d => (readAt_two _ _ _ _ _ rfl _ _ _ b (col 3 d) (by simp) rfl).trans (congrFun (harg4.read_unread x1) _))
    · exact (readAt_three _ _ _ _ _ _ (k1_off27_eq i) _ _ _ _ (Fin.ofNat 16 (i 2).val) (col 3 d) a (by rw [hk16]; simp) rfl (by simp)).trans (congrFun (harg7.read_unread x4) _)
    · refine (readAt_three _ _ _ _ _ _ rfl _ _ _ _ 3 0 b (by simp) (by simp) (by simp)).trans ?_
      unfold kernelRun1_A.sl.HS0_3 kernelRun1_A.sl.HS0_2
      rw [maxPieces_eq]
      exact (head_miss (N := 1) _ _ 0 b 2 _ _ _ 3 (by decide)).trans <| (head_miss (N := 1) _ _ 0 b 1 _ _ _ 3 (by decide)).trans <| (head_miss (N := 1) _ _ 0 b 0 _ _ _ 3 (by decide)).trans rfl
    · refine (readAt_three _ _ _ _ _ _ rfl _ _ _ _ 3 0 b (by simp) (by simp) (by simp)).trans ?_
      unfold kernelRun1_A.sl.HS1_3 kernelRun1_A.sl.HS1_2
      rw [sumPieces_eq]
      exact (head_miss (N := 1) _ _ 0 b 2 _ _ _ 3 (by decide)).trans <| (head_miss (N := 1) _ _ 0 b 1 _ _ _ 3 (by decide)).trans <| (head_miss (N := 1) _ _ 0 b 0 _ _ _ 3 (by decide)).trans rfl
    · refine (readAt_three _ _ _ _ _ _ rfl _ _ _ _ 3 d b (by simp) (by simp) (by simp)).trans ?_
      unfold kernelRun1_A.sl.HS2_3 kernelRun1_A.sl.HS2_2
      rw [accPieces_eq]
      exact (head_miss (N := 128) _ _ d b 2 _ _ _ 3 (by decide)).trans <| (head_miss (N := 128) _ _ d b 1 _ _ _ 3 (by decide)).trans <| (head_miss (N := 128) _ _ d b 0 _ _ _ 3 (by decide)).trans rfl

end

end Cert.KernelIdeal.Att
-- ==== Proof.AttnOut.lean ====
module

public import proofs.«01_k».proof.Proof.AttnRun
public import proofs.«01_k».proof.Proof.AttnMask
public import Idealize.ShloMosaic.Lib.Pipeline.ValueKit

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

/-- The quotient block written for one head. -/
theorem quot_apply (A : FVec Ideal S1x128x512 .f32) (l : FVec Ideal S1x1x512 .f32) (b : Fin 512) (d : Fin 128) :
    k1_pay144 (F := Ideal) A l (ix2 b d) = Ideal.div (A (ix3 0 d b)) (l (ix3 0 0 b)) := by
  pointwise [k1_pay144]

section
variable {e : EltTy} {κ : Kind} {sp : Space} (v : View sig κ sp ⟨2, ![512, 512]⟩ e) (f : v.ty.Contents (Elt Ideal))
  (d : Fin 128) (b : Fin 512)

/-- The newest write is to the head's columns. -/
theorem col_hit (o : ℕ) (i : ∀ a, (![0, o] : Fin 2 → ℕ) a + (![512, 128] : Fin 2 → ℕ) a ≤ (![512, 512] : Fin 2 → ℕ) a)
    (g : (⟨2, ![512, 128]⟩ : Shape).Idx → Elt Ideal e) (L : List (View.Piece (Elt Ideal) ⟨2, ![512, 512]⟩ e)) (h : Fin 4)
    (hh : 128 * h.val = o) : v.read (Elt Ideal) (v.writes (Elt Ideal) f
      (⟨Rect.unit (s := ⟨2, ![512, 512]⟩) ![0, o] ![512, 128] i, g⟩ :: L)) (ix2 b (col h d)) = g (ix2 b d) := by
  refine View.read_writes_cons_hit_of_coords v f (Rect.unit (s := ⟨2, ![512, 512]⟩) ![0, o] ![512, 128] i) g L
    (ix2 b d) (ix2 b (col h d)) fun a => ?_
  fin_cases a <;> simp [ix2, Rect.unit, col, hh]

/-- The newest write is to another head's columns. -/
theorem col_miss (o : ℕ) (i : ∀ a, (![0, o] : Fin 2 → ℕ) a + (![512, 128] : Fin 2 → ℕ) a ≤ (![512, 512] : Fin 2 → ℕ) a)
    (g : (⟨2, ![512, 128]⟩ : Shape).Idx → Elt Ideal e) (L : List (View.Piece (Elt Ideal) ⟨2, ![512, 512]⟩ e)) (h : Fin 4)
    (hh : 128 * h.val + 128 ≤ o) : v.read (Elt Ideal) (v.writes (Elt Ideal) f
      (⟨Rect.unit (s := ⟨2, ![512, 512]⟩) ![0, o] ![512, 128] i, g⟩ :: L)) (ix2 b (col h d))
        = v.read (Elt Ideal) (v.writes (Elt Ideal) f L) (ix2 b (col h d)) :=
  View.read_writes_cons_miss_of_axis v f _ _ _ (1 : Fin 2) o 128 rfl rfl rfl (.inl (show 128 * h.val + d.val < o by omega))

end

section
variable (c : Dev nD) (i : grid1.Coords) (arg3 : Memref sig .tc .vmem S512x512 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x128 .bf16) (harg6 : arg6.IsWhole) (arg7 : Memref sig .tc .vmem S16x512x512 .bf16) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole)
  (x0 x1 : Vec Ideal S512x512 .bf16) (x2 : Vec Ideal S8192x512 .bf16) (x3 : Vec Ideal S8192x128 .bf16) (x4 : Vec Ideal S16x512x512 .bf16)

/-- The block written back, at query `b`, head `h`, column `d`: the numerator over the denominator in the scratch buffers. -/
theorem out_read (h : Fin 4) (b : Fin 512) (d : Fin 128) : out1_A_5 c i arg3 harg3 arg4 harg4 arg5 harg5 arg6 harg6 arg7 harg7 arg8 harg8 arg9 harg9 arg10 harg10 arg11 harg11 x0 x1 x2 x3 x4 (ix2 b (col h d))
    = Ideal.div (arg11.view.read (Elt Ideal) (arg11.view.writes (Elt Ideal) arg11.view.junk (kernelRun1_A.sl.HS2_4 c i arg3 harg3 arg4 harg4 arg5 harg5 arg6 harg6 arg7 harg7 arg8 harg8 arg9 harg9 arg10 harg10 arg11 harg11 x0 x1 x2 x3 x4)) (ix3 h d b))
        (arg10.view.read (Elt Ideal) (arg10.view.writes (Elt Ideal) arg10.view.junk (kernelRun1_A.sl.HS1_4 c i arg3 harg3 arg4 harg4 arg5 harg5 arg6 harg6 arg7 harg7 arg8 harg8 arg9 harg9 arg10 harg10 arg11 harg11 x0 x1 x2 x3 x4)) (ix3 h 0 b)) := by
  unfold out1_A_5 kernelRun1_A
  rcases (by decide +revert : h = 0 ∨ h = 1 ∨ h = 2 ∨ h = 3) with rfl | rfl | rfl | rfl
  · refine ((col_miss _ _ d b 384 _ _ _ 0 (by decide)).trans <| (col_miss _ _ d b 256 _ _ _ 0 (by decide)).trans <| (col_miss _ _ d b 128 _ _ _ 0 (by decide)).trans <| (col_hit _ _ d b 0 _ _ _ 0 rfl).trans <| quot_apply _ _ b d).trans ?_
    exact congrArg₂ Ideal.div (readAt_three _ _ _ _ _ _ rfl _ _ _ _ 0 d b (by simp) (by simp) (by simp))
      (readAt_three _ _ _ _ _ _ rfl _ _ _ _ 0 0 b (by simp) (by simp) (by simp))
  · refine ((col_miss _ _ d b 384 _ _ _ 1 (by decide)).trans <| (col_miss _ _ d b 256 _ _ _ 1 (by decide)).trans <| (col_hit _ _ d b 128 _ _ _ 1 rfl).trans <| quot_apply _ _ b d).trans ?_
    exact congrArg₂ Ideal.div (readAt_three _ _ _ _ _ _ rfl _ _ _ _ 1 d b (by simp) (by simp) (by simp))
      (readAt_three _ _ _ _ _ _ rfl _ _ _ _ 1 0 b (by simp) (by simp) (by simp))
  · refine ((col_miss _ _ d b 384 _ _ _ 2 (by decide)).trans <| (col_hit _ _ d b 256 _ _ _ 2 rfl).trans <| quot_apply _ _ b d).trans ?_
    exact congrArg₂ Ideal.div (readAt_three _ _ _ _ _ _ rfl _ _ _ _ 2 d b (by simp) (by simp) (by simp))
      (readAt_three _ _ _ _ _ _ rfl _ _ _ _ 2 0 b (by simp) (by simp) (by simp))
  · refine ((col_hit _ _ d b 384 _ _ _ 3 rfl).trans <| quot_apply _ _ b d).trans ?_
    exact congrArg₂ Ideal.div (readAt_three _ _ _ _ _ _ rfl _ _ _ _ 3 d b (by simp) (by simp) (by simp))
      (readAt_three _ _ _ _ _ _ rfl _ _ _ _ 3 0 b (by simp) (by simp) (by simp))

/-- The block written back is the softmax-weighted mean of the values over the keys of earlier blocks and the visible keys of the
query's own block. -/
theorem block_out (h : Fin 4) (b : Fin 512) (t : ℕ → Fin 512 → ℝ) (v : ℕ → Fin 128 → Fin 512 → ℝ)
    (ht : ∀ k a, blkS x0 x1 x2 x3 k h b a = (t k a : EReal)) (hv : ∀ k d a, blkV x4 k h d a = (v k d a : EReal)) (d : Fin 128) :
    out1_A_5 c i arg3 harg3 arg4 harg4 arg5 harg5 arg6 harg6 arg7 harg7 arg8 harg8 arg9 harg9 arg10 harg10 arg11 harg11 x0 x1 x2 x3 x4 (ix2 b (col h d))
      = ((((∑ k ∈ Finset.range (i 2).val, ∑ a, v k d a * (2 : ℝ) ^ t k a)
            + ∑ a : Fin 512, v (i 2).val d a * if a.val / 64 ≤ b.val / 64 then (2 : ℝ) ^ t (i 2).val a else 0)
          / ((∑ k ∈ Finset.range (i 2).val, ∑ a, (2 : ℝ) ^ t k a)
            + ∑ a : Fin 512, if a.val / 64 ≤ b.val / 64 then (2 : ℝ) ^ t (i 2).val a else 0) : ℝ) : EReal) := by
  obtain ⟨M', hM⟩ := mask_head c i arg3 harg3 arg4 harg4 arg5 harg5 arg6 harg6 arg7 harg7 arg8 harg8 arg9 harg9 arg10 harg10 arg11 harg11 x0 x1 x2 x3 x4 h b
  have hst := (loop_end c i arg3 harg3 arg4 harg4 arg5 harg5 arg6 harg6 arg7 harg7 arg8 harg8 arg9 harg9 arg10 harg10 arg11 harg11 x0 x1 x2 x3 x4 h b t v ht hv).step (fun a : Fin 512 => a.val / 64 ≤ b.val / 64) (t (i 2).val) (v (i 2).val)
    b le_rfl _ (fun a => by simp only [ownS, sc, ht]) M' hM.max_eq
  have hpos : (∑ k ∈ Finset.range (i 2).val, ∑ a, (2 : ℝ) ^ t k a)
      + ∑ a : Fin 512, (if a.val / 64 ≤ b.val / 64 then (2 : ℝ) ^ t (i 2).val a else 0) ≠ 0 := by
    refine (add_pos_of_nonneg_of_pos (Finset.sum_nonneg fun k _ => Finset.sum_nonneg fun a _ => by positivity)
      (Finset.sum_pos' (fun a _ => by split_ifs <;> positivity) ⟨b, Finset.mem_univ _, by rw [if_pos le_rfl]; positivity⟩)).ne'
  have hq := hst.quot hpos d
  rw [out_read, hM.sum_eq, hM.acc_eq]
  simp only [hv]
  exact hq

end

end Cert.KernelIdeal.Att
-- ==== Proof.Attn.lean ====
module

public import proofs.«01_k».proof.Proof.Math
public import proofs.«01_k».proof.Proof.AttnTrip

@[expose] public section

noncomputable section

namespace Cert.Att
open Idealize.ShloMosaic Cert.KernelIdeal.Att

/-- Attention at one query over the keys of its own chunk of 64 and of earlier chunks, with weights that are powers of two. -/
def attn (S V : Fin 8192 → ℝ) (q : Fin 8192) : ℝ :=
  (∑ k : Fin 8192, if k.val / 64 ≤ q.val / 64 then V k * (2 : ℝ) ^ S k else 0)
    / ∑ k : Fin 8192, if k.val / 64 ≤ q.val / 64 then (2 : ℝ) ^ S k else 0

/-- A key's number, from its block and its place in it. -/
theorem key_val (k : ℕ) (a : Fin 512) (hk : k < 16) : (key k a).val = 512 * k + a := Nat.mod_eq_of_lt (by omega)

/-- A sum over the visible keys, cut into the blocks before the query's own and the query's own. -/
theorem sum_blocks (f : Fin 8192 → ℝ) (i : ℕ) (hi : i < 16) (b : Fin 512) :
    (∑ k : Fin 8192, if k.val / 64 ≤ (key i b).val / 64 then f k else 0)
      = (∑ k ∈ Finset.range i, ∑ a, f (key k a)) + ∑ a : Fin 512, if a.val / 64 ≤ b.val / 64 then f (key i a) else 0 := by
  rw [Fin.sum_univ_tiles 16 512 rfl]
  have hkv := fun (k : ℕ) (a : Fin 512) (hk : k < 16) => key_val k a hk
  have h1 : ∀ k : Fin 16, (∑ a : Fin 512, if (key k.val a).val / 64 ≤ (key i b).val / 64 then f (key k.val a) else 0)
      = (if k.val < i then ∑ a, f (key k.val a) else 0)
        + if k.val = i then ∑ a : Fin 512, (if a.val / 64 ≤ b.val / 64 then f (key i a) else 0) else 0 := by
    intro k
    rcases lt_trichotomy k.val i with h | h | h
    · rw [if_pos h, if_neg h.ne, add_zero]
      refine Finset.sum_congr rfl fun a _ => if_pos ?_
      rw [hkv _ _ k.isLt, hkv _ _ hi]; omega
    · rw [if_neg h.ge.not_gt, if_pos h, zero_add]
      refine Finset.sum_congr rfl fun a _ => ?_
      rw [h]
      refine if_congr ?_ rfl rfl
      rw [hkv _ _ hi, hkv _ _ hi]; omega
    · rw [if_neg h.not_gt, if_neg h.ne', add_zero]
      refine Finset.sum_eq_zero fun a _ => if_neg ?_
      rw [hkv _ _ k.isLt, hkv _ _ hi]; omega
  have h2 : ∀ (k : Fin 16) (a : Fin 512) (h : k.val * 512 + a.val < 8192), (⟨k.val * 512 + a.val, h⟩ : Fin 8192) = key k.val a :=
    fun k a h => Fin.ext (by rw [hkv _ _ k.isLt]; show _ = _; ring)
  calc _ = ∑ k : Fin 16, ∑ a : Fin 512, (if (key k.val a).val / 64 ≤ (key i b).val / 64 then f (key k.val a) else 0) :=
        Finset.sum_congr rfl fun k _ => Finset.sum_congr rfl fun a _ => by rw [h2 k a]
    _ = (∑ k : Fin 16, if k.val < i then ∑ a, f (key k.val a) else 0)
        + ∑ k : Fin 16, if k.val = i then ∑ a : Fin 512, (if a.val / 64 ≤ b.val / 64 then f (key i a) else 0) else 0 := by
      rw [← Finset.sum_add_distrib]; exact Finset.sum_congr rfl fun k _ => h1 k
    _ = _ := by
      congr 1
      · rw [Fin.sum_univ_eq_sum_range (fun k => if k < i then ∑ a, f (key k a) else 0) 16, ← Finset.sum_filter]
        refine Finset.sum_congr (Finset.ext fun k => ?_) fun _ _ => rfl
        simp only [Finset.mem_filter, Finset.mem_range]; omega
      · rw [Finset.sum_eq_single (⟨i, hi⟩ : Fin 16) (fun k _ hk => if_neg fun h => hk (Fin.ext h)) (fun h => absurd (Finset.mem_univ _) h)]
        exact if_pos rfl

/-- The block formula of the running softmax is attention over the visible keys. -/
theorem attn_blocks (S V : Fin 8192 → ℝ) (i : ℕ) (hi : i < 16) (b : Fin 512) :
    ((∑ k ∈ Finset.range i, ∑ a, V (key k a) * (2 : ℝ) ^ S (key k a))
        + ∑ a : Fin 512, V (key i a) * if a.val / 64 ≤ b.val / 64 then (2 : ℝ) ^ S (key i a) else 0)
      / ((∑ k ∈ Finset.range i, ∑ a, (2 : ℝ) ^ S (key k a))
        + ∑ a : Fin 512, if a.val / 64 ≤ b.val / 64 then (2 : ℝ) ^ S (key i a) else 0) = attn S V (key i b) := by
  unfold attn
  rw [sum_blocks _ i hi b, sum_blocks _ i hi b]
  simp only [mul_ite, mul_zero]

end Cert.Att
-- ==== Proof.AttnArr.lean ====
module

public import proofs.«01_k».proof.Proof.AttnOut
public import proofs.«01_k».proof.Proof.Attn

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

/-- The row of a flattened array that holds position `q` of stream `b`. -/
def row (b : Fin 4) (q : Fin 8192) : Fin 32768 := ⟨8192 * b.val + q.val, by omega⟩

/-- The column of a flattened array that holds component `n` of head `H`. -/
def hc (H : Fin 16) (n : Fin 128) : Fin 2048 := ⟨128 * H.val + n.val, by omega⟩

/-- The block of 512 keys of stream `b`. -/
def bk (b : Fin 4) (k : Fin 16) : Fin 64 := ⟨16 * b.val + k.val, by omega⟩

/-- Key blocks are numbered below 16. -/
theorem key_mod (k : ℕ) (a : Fin 512) : key (Fin.ofNat 16 k).val a = key k a := by
  refine Fin.ext ?_
  show (512 * (k % 16) + a.val) % 8192 = (512 * k + a.val) % 8192
  have := a.isLt
  omega

/-- Which block of its array window 0 holds at a point. -/
theorem idx0 : ∀ t : Fin cfg1.N, win1_0.index t = ![(grid1.coords t 0).val * 16 + (grid1.coords t 2).val, (grid1.coords t 1).val] :=
  (by decide +kernel : ∀ t : Fin grid1.N, _)
/-- Which block of its array window 1 holds at a point. -/
theorem idx1 : ∀ t : Fin cfg1.N, win1_1.index t = ![(grid1.coords t 0).val * 16 + (grid1.coords t 2).val, (grid1.coords t 1).val] :=
  (by decide +kernel : ∀ t : Fin grid1.N, _)
/-- Which block of its array window 2 holds at a point. -/
theorem idx2 : ∀ t : Fin cfg1.N, win1_2.index t = ![(grid1.coords t 0).val, (grid1.coords t 1).val] :=
  (by decide +kernel : ∀ t : Fin grid1.N, _)
/-- Which block of its array window 3 holds at a point. -/
theorem idx3 : ∀ t : Fin cfg1.N, win1_3.index t = ![(grid1.coords t 0).val, 0] :=
  (by decide +kernel : ∀ t : Fin grid1.N, _)
/-- Which block of its array window 4 holds at a point. -/
theorem idx4 : ∀ t : Fin cfg1.N, win1_4.index t = ![(grid1.coords t 0).val, (grid1.coords t 1).val, 0] :=
  (by decide +kernel : ∀ t : Fin grid1.N, _)
/-- Which block of its array window 5 holds at a point. -/
theorem idx5 : ∀ t : Fin cfg1.N, win1_5.index t = ![(grid1.coords t 0).val * 16 + (grid1.coords t 2).val, (grid1.coords t 1).val] :=
  (by decide +kernel : ∀ t : Fin grid1.N, _)

variable (V : Dev nD → (r : Ref sig .tc) → r.ty.Contents (Elt Ideal)) (c : Dev nD) (t : Fin cfg1.N)

/-- The stream, the query block and the head group of a grid point. -/
def pb : Fin 4 := ⟨(grid1.coords t 0).val, (grid1.coords t 0).isLt⟩
/-- The point's group of heads. -/
def pg : Fin 4 := ⟨(grid1.coords t 1).val, (grid1.coords t 1).isLt⟩
/-- The point's block of queries. -/
def pq : Fin 16 := ⟨(grid1.coords t 2).val, (grid1.coords t 2).isLt⟩

/-- Head `h` of head group `g`. -/
def hd (g h : Fin 4) : Fin 16 := ⟨4 * g.val + h.val, by omega⟩

/-- The block of window 0, element by element. -/
theorem blk0 (r : Fin 512) (h : Fin 4) (n : Fin 128) :
    iblk1 V c 0 t (ix2 r (col h n)) = V c main_v6 (ix2 (row (pb t) (key (pq t).val r)) (hc (hd (pg t) h) n)) := by
  have hk : (key (grid1.coords t 2).val r).val = 512 * (grid1.coords t 2).val + r.val := key_val _ r (pq t).isLt
  blk_simp [iblk1]
  refine congrArg (V c main_v6) ?_
  blk_ext [idx0, row, hc, hd, col, hk, pb, pg, pq]
/-- The block of window 1, element by element. -/
theorem blk1 (r : Fin 512) (h : Fin 4) (n : Fin 128) :
    iblk1 V c 1 t (ix2 r (col h n)) = V c main_v11 (ix2 (row (pb t) (key (pq t).val r)) (hc (hd (pg t) h) n)) := by
  have hk : (key (grid1.coords t 2).val r).val = 512 * (grid1.coords t 2).val + r.val := key_val _ r (pq t).isLt
  blk_simp [iblk1]
  refine congrArg (V c main_v11) ?_
  blk_ext [idx1, row, hc, hd, col, hk, pb, pg, pq]
/-- The block of window 2, element by element. -/
theorem blk2 (k : Fin 8192) (h : Fin 4) (n : Fin 128) :
    iblk1 V c 2 t (ix2 k (col h n)) = V c main_v22_0 (ix2 (row (pb t) k) (hc (hd (pg t) h) n)) := by
  blk_simp [iblk1]
  refine congrArg (V c main_v22_0) ?_
  blk_ext [idx2, row, hc, hd, col, pb, pg, pq]
/-- The block of window 3, element by element. -/
theorem blk3 (k : Fin 8192) (n : Fin 128) :
    iblk1 V c 3 t (ix2 k n) = V c main_v16 (ix2 (row (pb t) k) n) := by
  blk_simp [iblk1]
  refine congrArg (V c main_v16) ?_
  blk_ext [idx3, row, hc, hd, col, pb, pg, pq]
/-- The block of window 4, element by element. -/
theorem blk4 (k : Fin 16) (h : Fin 4) (n : Fin 128) (a : Fin 512) :
    iblk1 V c 4 t (ix3 k (col h n) a) = V c main_v22_1 (ix3 (bk (pb t) k) (hc (hd (pg t) h) n) a) := by
  blk_simp [iblk1]
  refine congrArg (V c main_v22_1) ?_
  blk_ext [idx4, row, hc, hd, col, pb, pg, pq, bk]

/-- The five arrays the attention call reads, as real numbers by stream, position, head and component. -/
structure Reads (qn qp kn v : Fin 4 → Fin 8192 → Fin 16 → Fin 128 → ℝ) (kp : Fin 4 → Fin 8192 → Fin 128 → ℝ) : Prop where
  q_nope : ∀ b q H n, (V c main_v6 (ix2 (row b q) (hc H n)) : EReal) = ((qn b q H n : ℝ) : EReal)
  q_rope : ∀ b q H n, (V c main_v11 (ix2 (row b q) (hc H n)) : EReal) = ((qp b q H n : ℝ) : EReal)
  k_nope : ∀ b k H n, (V c main_v22_0 (ix2 (row b k) (hc H n)) : EReal) = ((kn b k H n : ℝ) : EReal)
  k_rope : ∀ b k n, (V c main_v16 (ix2 (row b k) n) : EReal) = ((kp b k n : ℝ) : EReal)
  value : ∀ b (k : Fin 16) H d a, (V c main_v22_1 (ix3 (bk b k) (hc H d) a) : EReal) = ((v b (key k.val a) H d : ℝ) : EReal)

/-- The score, in the kernel's base-two units. -/
def score (qn qp kn : Fin 4 → Fin 8192 → Fin 16 → Fin 128 → ℝ) (kp : Fin 4 → Fin 8192 → Fin 128 → ℝ)
    (b : Fin 4) (q : Fin 8192) (H : Fin 16) (k : Fin 8192) : ℝ :=
  (∑ n : Fin 128, kn b k H n * qn b q H n) + ∑ n : Fin 128, kp b k n * qp b q H n

variable {V c}
variable {qn qp kn v : Fin 4 → Fin 8192 → Fin 16 → Fin 128 → ℝ} {kp : Fin 4 → Fin 8192 → Fin 128 → ℝ}

/-- What one grid point leaves in its output block. -/
theorem out_point (R : Reads V c qn qp kn v kp) (r : Fin 512) (h : Fin 4) (d : Fin 128) :
    outsAt1 V c t (ix2 r (col h d))
      = ((attn (score qn qp kn kp (pb t) (key (pq t).val r) (hd (pg t) h)) (fun k => v (pb t) k (hd (pg t) h) d) (key (pq t).val r) : ℝ) : EReal) := by
  unfold outsAt1
  rw [← attn_blocks _ _ _ (pq t).isLt]
  refine block_out _ _ _ _ _ _ _ _ _ _ _ _ _ _ _ _ _ _ _ _ _ _ _ _ _ h r
    (fun k a => score qn qp kn kp (pb t) (key (pq t).val r) (hd (pg t) h) (key k a))
    (fun k d a => v (pb t) (key k a) (hd (pg t) h) d) ?_ ?_ d
  · intro k a
    unfold blkS score
    rw [EReal.coe_add, coe_sum, coe_sum]
    refine congrArg₂ (· + ·) (Finset.sum_congr rfl fun n _ => ?_) (Finset.sum_congr rfl fun n _ => ?_)
    · rw [blk0, blk2, R.q_nope, R.k_nope, EReal.coe_mul]
    · rw [blk1, blk3, R.q_rope, R.k_rope, EReal.coe_mul]; rfl
  · intro k d a
    unfold blkV
    rw [blk4, R.value, key_mod]

/-- The attention call's result array. -/
theorem attn_array (R : Reads V c qn qp kn v kp) (b : Fin 4) (q : Fin 8192) (H : Fin 16) (d : Fin 128) :
    ((dat1 V c).arrAt 5 cfg1.N (ix2 (row b q) (hc H d)) : EReal)
      = ((attn (score qn qp kn kp b q H) (fun k => v b k H d) q : ℝ) : EReal) := by
  suffices h : ∀ i, ∀ b q H d, i = ix2 (row b q) (hc H d) →
      ((dat1 V c).arrAt 5 cfg1.N i : EReal) = ((attn (score qn qp kn kp b q H) (fun k => v b k H d) q : ℝ) : EReal) from h _ b q H d rfl
  refine (dat1 V c).arrAt_forall_of_covers 5
    (fun i x => ∀ b q H d, i = ix2 (row b q) (hc H d) → (x : EReal) = ((attn (score qn qp kn kp b q H) (fun k => v b k H d) q : ℝ) : EReal))
    (by decide +kernel) (fun t hf y => ?_)
  intro b q H d hi
  have h0 := congrArg Fin.val (congrFun hi 0)
  have h1 := congrArg Fin.val (congrFun hi 1)
  blk_simp [idx5] at h0 h1
  blk_simp
  rw [after1_5]
  have hr : (y 0).val < 512 := (y 0).isLt
  have hy : (y 1).val < 512 := (y 1).isLt
  have hb0 : (grid1.coords t 0).val < 4 := (grid1.coords t 0).isLt
  have hb1 : (grid1.coords t 1).val < 4 := (grid1.coords t 1).isLt
  have hb2 : (grid1.coords t 2).val < 16 := (grid1.coords t 2).isLt
  simp only [row, hc] at h0 h1
  have hk : (key (grid1.coords t 2).val ⟨(y 0).val, hr⟩).val = 512 * (grid1.coords t 2).val + (y 0).val := key_val _ _ hb2
  obtain rfl : b = pb t := Fin.ext (by show _ = (grid1.coords t 0).val; omega)
  obtain rfl : q = key (pq t).val ⟨(y 0).val, hr⟩ := Fin.ext (by
    refine Eq.trans ?_ hk.symm
    simp only [pb] at h0
    omega)
  have hy' : (y 1).val / 128 < 4 := by omega
  obtain rfl : H = hd (pg t) ⟨(y 1).val / 128, hy'⟩ := Fin.ext (by
    show _ = 4 * (grid1.coords t 1).val + (y 1).val / 128
    omega)
  have hd' : (y 1).val = 128 * ((y 1).val / 128) + d.val := by
    simp only [hd, pg] at h1
    omega
  rw [← out_point t R]
  refine congrArg (outsAt1 V c t) (funext fun a => ?_)
  match a with
  | 0 => rfl
  | 1 => exact Fin.ext hd'

end Cert.KernelIdeal.Att
-- ==== Proof.KvArr.lean ====
module

public import proofs.«01_k».proof.Proof.AttnArr

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

/-- Which block of its array window 0 of the projection call holds at a point. -/
theorem kIdx0 : ∀ t : Fin cfg0.N, win0_0.index t = ![t.val, 0] := (by decide +kernel : ∀ t : Fin grid0.N, _)
/-- Which block of its array window 1 of the projection call holds at a point. -/
theorem kIdx1 : ∀ t : Fin cfg0.N, win0_1.index t = ![0, 0] := (by decide +kernel : ∀ t : Fin grid0.N, _)
/-- Which block of its array window 2 of the projection call holds at a point. -/
theorem kIdx2 : ∀ t : Fin cfg0.N, win0_2.index t = ![0, 0] := (by decide +kernel : ∀ t : Fin grid0.N, _)
/-- Which block of its array window 3 of the projection call holds at a point. -/
theorem kIdx3 : ∀ t : Fin cfg0.N, win0_3.index t = ![t.val, 0] := (by decide +kernel : ∀ t : Fin grid0.N, _)
/-- Which block of its array window 4 of the projection call holds at a point. -/
theorem kIdx4 : ∀ t : Fin cfg0.N, win0_4.index t = ![t.val, 0, 0] := (by decide +kernel : ∀ t : Fin grid0.N, _)

/-- Row `a` of the block of 512 rows number `k`. -/
def brow (k : Fin 64) (a : Fin 512) : Fin 32768 := ⟨512 * k.val + a.val, by omega⟩

/-- The sum of 512 products. -/
def dotE (f g : Fin 512 → EReal) : EReal := ∑ r : Fin 512, f r * g r

/-- The key block of the projection: rows of latents times the key weights. -/
theorem keyPay_apply (x0 : Vec Ideal S512x512 .bf16) (x1 : Vec Ideal S512x2048 .bf16) (a : Fin 512) (j : Fin 2048) :
    (k0_pay2 (F := Ideal) x0 x1 (ix2 a j) : EReal) = ∑ r : Fin 512, (x0 (ix2 a r) : EReal) * x1 (ix2 r j) := by
  pointwise [k0_pay2, k0_pay1]

/-- The value block of the projection, transposed: value weights times rows of latents. -/
theorem valPay_apply (x0 : Vec Ideal S512x512 .bf16) (x2 : Vec Ideal S2048x512 .bf16) (a : Fin 512) (j : Fin 2048) :
    (k0_pay3 (F := Ideal) x0 x2 (ix3 0 j a) : EReal) = ∑ r : Fin 512, (x2 (ix2 j r) : EReal) * x0 (ix2 a r) := by
  pointwise [k0_pay3, k0_pay1]

variable (V : Dev nD → (r : Ref sig .tc) → r.ty.Contents (Elt Ideal)) (c : Dev nD) (t : Fin cfg0.N)

/-- The block of window 0 of the projection call, element by element. -/
theorem kBlk0 (a r : Fin 512) (ht : t.val < 64) :
    iblk0 V c 0 t (ix2 a r) = V c main_v13 (ix2 (brow ⟨t.val, ht⟩ a) r) := by
  blk_simp [iblk0]
  refine congrArg (V c main_v13) ?_
  blk_ext [kIdx0, brow]
/-- The block of window 1 of the projection call, element by element. -/
theorem kBlk1 (r : Fin 512) (j : Fin 2048) : iblk0 V c 1 t (ix2 r j) = V c main_v18 (ix2 r j) := by
  blk_simp [iblk0]
  refine congrArg (V c main_v18) ?_
  blk_ext [kIdx1]
/-- The block of window 2 of the projection call, element by element. -/
theorem kBlk2 (r : Fin 512) (j : Fin 2048) : iblk0 V c 2 t (ix2 j r) = V c main_v21 (ix2 j r) := by
  blk_simp [iblk0]
  refine congrArg (V c main_v21) ?_
  blk_ext [kIdx2]

/-- The key array of the projection call. -/
theorem key_array (k : Fin 64) (a : Fin 512) (j : Fin 2048) :
    ((dat0 V c).arrAt 3 cfg0.N (ix2 (brow k a) j) : EReal)
      = dotE (fun r => V c main_v13 (ix2 (brow k a) r)) (fun r => V c main_v18 (ix2 r j)) := by
  suffices h : ∀ i, ∀ k a j, i = ix2 (brow k a) j →
      ((dat0 V c).arrAt 3 cfg0.N i : EReal)
        = dotE (fun r => V c main_v13 (ix2 (brow k a) r)) (fun r => V c main_v18 (ix2 r j)) from h _ k a j rfl
  refine (dat0 V c).arrAt_forall_of_covers 3
    (fun i x => ∀ k a j, i = ix2 (brow k a) j → (x : EReal) = dotE (fun r => V c main_v13 (ix2 (brow k a) r)) (fun r => V c main_v18 (ix2 r j)))
    (by decide +kernel) (fun t hf y => ?_)
  intro k a j hi
  have h0 := congrArg Fin.val (congrFun hi 0)
  have h1 := congrArg Fin.val (congrFun hi 1)
  blk_simp [kIdx3] at h0 h1
  blk_simp
  rw [after0_3]
  have ht : t.val < 64 := t.isLt
  have hy : (y 0).val < 512 := (y 0).isLt
  simp only [brow] at h0
  obtain rfl : k = ⟨t.val, ht⟩ := Fin.ext (by show _ = t.val; omega)
  have hy2 : y = ix2 a j := funext fun x => match x with
    | 0 => Fin.ext (by show (y 0).val = a.val; simp only at h0; omega)
    | 1 => Fin.ext (by show (y 1).val = j.val; omega)
  rw [hy2]
  frame_out
  refine (keyPay_apply _ _ _ _).trans (Finset.sum_congr rfl fun r _ => ?_)
  exact congrArg₂ (α := EReal) (β := EReal) (· * ·) (kBlk0 V c t a r ht) (kBlk1 V c t r j)

/-- The value array of the projection call. -/
theorem val_array (k : Fin 64) (a : Fin 512) (j : Fin 2048) :
    ((dat0 V c).arrAt 4 cfg0.N (ix3 k j a) : EReal)
      = dotE (fun r => V c main_v21 (ix2 j r)) (fun r => V c main_v13 (ix2 (brow k a) r)) := by
  suffices h : ∀ i, ∀ k j a, i = ix3 k j a →
      ((dat0 V c).arrAt 4 cfg0.N i : EReal)
        = dotE (fun r => V c main_v21 (ix2 j r)) (fun r => V c main_v13 (ix2 (brow k a) r)) from h _ k j a rfl
  refine (dat0 V c).arrAt_forall_of_covers 4
    (fun i x => ∀ k j a, i = ix3 k j a → (x : EReal)
        = dotE (fun r => V c main_v21 (ix2 j r)) (fun r => V c main_v13 (ix2 (brow k a) r)))
    (by decide +kernel) (fun t hf y => ?_)
  intro k j a hi
  have h0 := congrArg Fin.val (congrFun hi 0)
  have h1 := congrArg Fin.val (congrFun hi 1)
  have h2 := congrArg Fin.val (congrFun hi 2)
  blk_simp [kIdx4] at h0 h1 h2
  blk_simp
  rw [after0_4]
  have ht : t.val < 64 := t.isLt
  have hy : (y 0).val < 1 := (y 0).isLt
  obtain rfl : k = ⟨t.val, ht⟩ := Fin.ext (by show _ = t.val; omega)
  have hy2 : y = ix3 0 j a := funext fun x => match x with
    | 0 => Fin.ext (by show (y 0).val = 0; omega)
    | 1 => Fin.ext (by show (y 1).val = j.val; omega)
    | 2 => Fin.ext (by show (y 2).val = a.val; omega)
  rw [hy2]
  frame_out
  refine (valPay_apply _ _ _ _).trans (Finset.sum_congr rfl fun r _ => ?_)
  exact congrArg₂ (α := EReal) (β := EReal) (· * ·) (kBlk2 V c t r j) (kBlk0 V c t a r ht)

end Cert.KernelIdeal.Att
-- ==== Proof.Host.lean ====
module

public import proofs.«01_k».proof.Proof.KvArr
public import Idealize.ShloMosaic.Lib.KernelVsHost

@[expose] public section

set_option maxRecDepth 16384

noncomputable section

namespace Cert.KernelIdeal.Att
open Idealize.ShloMosaic Idealize.SL.Sem Cert.KernelIdeal Cert.KernelIdeal.Gen
open Idealize.ShloMosaic.Pointwise Cert.Att

variable (m : (ℓ : Loc nD τ sig) → Buf (Elt Ideal) ℓ) (ρ : Dev nD → PrngReg) (c : Dev nD)

/-- The factor that the host multiplies the queries by. -/
def aScale : EReal := Ideal.div (Ideal.rsqrt (Ideal.ofBits .f32 0x43400000#32)) (Ideal.log (Ideal.ofBits .f32 0x40000000#32))

/-- The six argument arrays at coordinates. -/
def aQn (b : Fin 4) (q : Fin 8192) (H : Fin 16) (n : Fin 128) : EReal := m (c.tc.loc main_arg0) (ix4 b q H n)
/-- The rotated queries. -/
def aQp (b : Fin 4) (q : Fin 8192) (H : Fin 16) (e : Fin 64) : EReal := m (c.tc.loc main_arg1) (ix4 b q H e)
/-- The latents. -/
def aC (b : Fin 4) (k : Fin 8192) (r : Fin 512) : EReal := m (c.tc.loc main_arg2) (ix3 b k r)
/-- The rotated keys. -/
def aKp (b : Fin 4) (k : Fin 8192) (e : Fin 64) : EReal := m (c.tc.loc main_arg3) (ix3 b k e)
/-- The key weights. -/
def aUk (r : Fin 512) (H : Fin 16) (n : Fin 128) : EReal := m (c.tc.loc main_arg4) (ix3 r H n)
/-- The value weights. -/
def aUv (r : Fin 512) (H : Fin 16) (d : Fin 128) : EReal := m (c.tc.loc main_arg5) (ix3 r H d)

/-- A row's prompt. -/
theorem row_div (b : Fin 4) (q : Fin 8192) (h) : (⟨(row b q).val / 8192, h⟩ : Fin 4) = b := Fin.ext (by simp only [row]; omega)
/-- A row's place in its prompt. -/
theorem row_mod (b : Fin 4) (q : Fin 8192) (h) : (⟨(row b q).val % 8192, h⟩ : Fin 8192) = q := Fin.ext (by simp only [row]; omega)
/-- A column's head. -/
theorem hc_div (H : Fin 16) (n : Fin 128) (h) : (⟨(hc H n).val / 128, h⟩ : Fin 16) = H := Fin.ext (by simp only [hc]; omega)
/-- A column's place in its head. -/
theorem hc_mod (H : Fin 16) (n : Fin 128) (h) : (⟨(hc H n).val % 128, h⟩ : Fin 128) = n := Fin.ext (by simp only [hc]; omega)

/-- The queries' unrotated part as the attention call reads it. -/
theorem w5_q_nope (b : Fin 4) (q : Fin 8192) (H : Fin 16) (n : Fin 128) :
    (W5 m ρ c (Proc.devRef .tc main_v6) (ix2 (row b q) (hc H n)) : EReal) = aQn m c b q H n * aScale := by
  rw [W5_of m ρ c main_v6 (by decide), W4_of m ρ c main_v6 (by decide), W3_of m ρ c main_v6 (by decide), W2_of m ρ c main_v6 (by decide)]
  unfold W1
  entry_read
  pointwise
  rw [row_div, row_mod, hc_div, hc_mod]
  rfl

/-- The latents as both calls read them. -/
theorem w5_lat (b : Fin 4) (k : Fin 8192) (r : Fin 512) :
    (W5 m ρ c (Proc.devRef .tc main_v13) (ix2 (row b k) r) : EReal) = aC m c b k r := by
  rw [W5_of m ρ c main_v13 (by decide), W4_of m ρ c main_v13 (by decide)]
  unfold W3
  entry_read
  pointwise
  rw [row_div, row_mod]
  rfl

/-- The key weights as the projection call reads them. -/
theorem w5_uk (r : Fin 512) (H : Fin 16) (n : Fin 128) :
    (W5 m ρ c (Proc.devRef .tc main_v18) (ix2 r (hc H n)) : EReal) = aUk m c r H n := by
  unfold W5
  entry_read
  pointwise
  rw [hc_div, hc_mod]
  rfl

/-- The value weights, transposed, as the projection call reads them. -/
theorem w5_uv (r : Fin 512) (H : Fin 16) (d : Fin 128) :
    (W5 m ρ c (Proc.devRef .tc main_v21) (ix2 (hc H d) r) : EReal) = aUv m c r H d := by
  unfold W5
  entry_read
  pointwise
  rw [hc_div, hc_mod]
  rfl

/-- Padding the last of three axes from 64 to 128. -/
theorem pad3 (x : FVec Ideal S4x8192x64 .f32) (z : FVec Ideal S_ .f32) (b : Fin 4) (k : Fin 8192) (e : Fin 128) :
    pad S4x8192x128 ![0, 0, 0] ![0, 0, 64] ![0, 0, 0] x z pads_S4x8192x64_S4x8192x128_000_000_0640 h_S_ (ix3 b k e)
      = if h : e.val < 64 then x (ix3 b k ⟨e.val, h⟩) else z ix0 := by
  split
  · rename_i h
    refine pad_apply_of_inside _ _ _ x z _ _ _ (ix3 b k ⟨e.val, h⟩) fun a => ?_
    match a with
    | 0 => simp
    | 1 => simp
    | 2 => simp
  · rename_i h
    refine (pad_apply_of_not_inside _ _ _ x z _ _ _ (a := 2) ?_).trans ?_
    · simp; omega
    · exact congrArg z (funext fun a => a.elim0)

/-- Padding the last of four axes from 64 to 128. -/
theorem pad4 (x : FVec Ideal S4x8192x16x64 .f32) (z : FVec Ideal S_ .f32) (b : Fin 4) (q : Fin 8192) (H : Fin 16) (e : Fin 128) :
    pad S4x8192x16x128 ![0, 0, 0, 0] ![0, 0, 0, 64] ![0, 0, 0, 0] x z pads_S4x8192x16x64_S4x8192x16x128_000_000_000_0640 h_S_ (ix4 b q H e)
      = if h : e.val < 64 then x (ix4 b q H ⟨e.val, h⟩) else z ix0 := by
  split
  · rename_i h
    refine pad_apply_of_inside _ _ _ x z _ _ _ (ix4 b q H ⟨e.val, h⟩) fun a => ?_
    match a with
    | 0 => simp
    | 1 => simp
    | 2 => simp
    | 3 => simp
  · rename_i h
    refine (pad_apply_of_not_inside _ _ _ x z _ _ _ (a := 3) ?_).trans ?_
    · simp; omega
    · exact congrArg z (funext fun a => a.elim0)

/-- The padding value is zero. -/
theorem pad_zero : (sitofp (F := Ideal) .f32 (constantI S_ 32 0#32) ix0 : EReal) = 0 := by
  show (((0 : ℤ) : ℝ) : EReal) = 0
  simp

/-- The keys' rotated part, padded with zeros, as the attention call reads it. -/
theorem w5_k_rope (b : Fin 4) (k : Fin 8192) (e : Fin 128) :
    (W5 m ρ c (Proc.devRef .tc main_v16) (ix2 (row b k) e) : EReal) = if h : e.val < 64 then aKp m c b k ⟨e.val, h⟩ else 0 := by
  unfold W5
  entry_read
  pointwise
  rw [row_div, row_mod]
  refine (pad3 _ _ b k e).trans ?_
  rw [← pad_zero]
  rfl

/-- The queries' rotated part, padded with zeros, as the attention call reads it. -/
theorem w5_q_rope (b : Fin 4) (q : Fin 8192) (H : Fin 16) (e : Fin 128) :
    (W5 m ρ c (Proc.devRef .tc main_v11) (ix2 (row b q) (hc H e)) : EReal)
      = (if h : e.val < 64 then aQp m c b q H ⟨e.val, h⟩ else 0) * aScale := by
  rw [W5_of m ρ c main_v11 (by decide), W4_of m ρ c main_v11 (by decide)]
  unfold W3
  entry_read
  pointwise
  rw [row_div, row_mod, hc_div, hc_mod]
  refine congrArg₂ (α := EReal) (β := EReal) (· * ·) ((pad4 _ _ b q H e).trans ?_) rfl
  rw [← pad_zero]
  rfl

end Cert.KernelIdeal.Att
-- ==== Proof.Spec.lean ====
module

public import proofs.«01_k».proof.Proof.Host

@[expose] public section

set_option maxRecDepth 16384

noncomputable section

namespace Cert.Att
open Idealize.ShloMosaic Cert.KernelIdeal.Att

/-- The six arguments as real numbers. -/
structure Data where
  qn : Fin 4 → Fin 8192 → Fin 16 → Fin 128 → ℝ
  qp : Fin 4 → Fin 8192 → Fin 16 → Fin 64 → ℝ
  lat : Fin 4 → Fin 8192 → Fin 512 → ℝ
  kp : Fin 4 → Fin 8192 → Fin 64 → ℝ
  uk : Fin 512 → Fin 16 → Fin 128 → ℝ
  uv : Fin 512 → Fin 16 → Fin 128 → ℝ

namespace Data
variable (D : Data)

/-- The unrotated key of a position and head. -/
def key (b : Fin 4) (k : Fin 8192) (H : Fin 16) (n : Fin 128) : ℝ := ∑ r : Fin 512, D.lat b k r * D.uk r H n

/-- The value of a position and head. -/
def val (b : Fin 4) (k : Fin 8192) (H : Fin 16) (d : Fin 128) : ℝ := ∑ r : Fin 512, D.uv r H d * D.lat b k r

/-- The scaled score of a query and a key. -/
def logit (b : Fin 4) (q : Fin 8192) (H : Fin 16) (k : Fin 8192) : ℝ :=
  ((∑ n : Fin 128, D.key b k H n * D.qn b q H n) + ∑ e : Fin 64, D.kp b k e * D.qp b q H e) * (√192)⁻¹

/-- The weight of a key: zero when it lies in a later chunk of 64 than the query. -/
def weight (b : Fin 4) (q : Fin 8192) (H : Fin 16) (k : Fin 8192) : ℝ :=
  if k.val / 64 ≤ q.val / 64 then Real.exp (D.logit b q H k) else 0

/-- The attention output. -/
def out (b : Fin 4) (q : Fin 8192) (H : Fin 16) (d : Fin 128) : ℝ :=
  (∑ k : Fin 8192, D.weight b q H k * D.val b k H d) / ∑ k : Fin 8192, D.weight b q H k

/-- Attention with powers of two of scores divided by `log 2` is attention with exponentials. -/
theorem attn_eq (b : Fin 4) (q : Fin 8192) (H : Fin 16) (d : Fin 128) :
    attn (fun k => D.logit b q H k / Real.log 2) (fun k => D.val b k H d) q = D.out b q H d := by
  have h2 : ∀ x : ℝ, (2 : ℝ) ^ (x / Real.log 2) = Real.exp x := fun x => by
    rw [Real.rpow_def_of_pos two_pos, mul_div_cancel₀ _ (Real.log_pos one_lt_two).ne']
  unfold attn out weight
  simp only [h2, ite_mul, zero_mul, mul_comm (Real.exp _)]

end Data
end Cert.Att

namespace Cert.KernelIdeal.Att
open Idealize.ShloMosaic Idealize.SL.Sem Cert.KernelIdeal Cert.KernelIdeal.Gen
open Idealize.ShloMosaic.Pointwise Cert.Att

variable (m : (ℓ : Loc nD τ sig) → Buf (Elt Ideal) ℓ) (ρ : Dev nD → PrngReg) (c : Dev nD)

/-- The arguments hold the real numbers `D`. -/
structure Holds (D : Data) : Prop where
  qn : ∀ b q H n, aQn m c b q H n = (D.qn b q H n : EReal)
  qp : ∀ b q H e, aQp m c b q H e = (D.qp b q H e : EReal)
  lat : ∀ b k r, aC m c b k r = (D.lat b k r : EReal)
  kp : ∀ b k e, aKp m c b k e = (D.kp b k e : EReal)
  uk : ∀ r H n, aUk m c r H n = (D.uk r H n : EReal)
  uv : ∀ r H d, aUv m c r H d = (D.uv r H d : EReal)

/-- The reciprocal square root of 192. -/
theorem rsqrt_192 : (Ideal.rsqrt (Ideal.ofBits .f32 0x43400000#32) : EReal) = (((√192)⁻¹ : ℝ) : EReal) := by
  have h1 : (Ideal.ofBits .f32 0x43400000#32 : EReal) = ((192 : ℝ) : EReal) := by
    simp [Ideal.ofBits, Ideal.ieee]
    rw [← EReal.coe_mul]
    exact congrArg _ (by norm_num)
  rw [h1, Ideal.rsqrt_coe, if_neg (by norm_num), if_neg (by norm_num)]

/-- The host's factor: one over the square root of 192, over the logarithm of 2. -/
theorem aScale_eq : aScale = (((√192)⁻¹ / Real.log 2 : ℝ) : EReal) := by
  have h2 : (Ideal.ofBits .f32 0x40000000#32 : EReal) = ((2 : ℝ) : EReal) := by
    simp [Ideal.ofBits, Ideal.ieee]
    rw [← EReal.coe_mul]
    exact congrArg _ (by norm_num)
  have h3 : Ideal.log ((2 : ℝ) : EReal) = ((Real.log 2 : ℝ) : EReal) := if_neg (by norm_num)
  unfold aScale
  rw [h2, h3, rsqrt_192, Ideal.div_coe (Real.log_pos one_lt_two).ne', ← EReal.coe_mul, one_div, div_eq_mul_inv]

/-- A sum of products of real numbers. -/
theorem dotE_coe {f g : Fin 512 → EReal} {x y : Fin 512 → ℝ} (hf : ∀ r, f r = (x r : EReal)) (hg : ∀ r, g r = (y r : EReal)) :
    dotE f g = ((∑ r, x r * y r : ℝ) : EReal) := by
  unfold dotE
  rw [coe_sum]
  exact Finset.sum_congr rfl fun r _ => by rw [hf, hg, EReal.coe_mul]

/-- A row, by its block. -/
theorem row_brow (b : Fin 4) (k : Fin 16) (a : Fin 512) : row b (key k.val a) = brow (bk b k) a :=
  Fin.ext (by simp only [row, brow, bk]; rw [key_val _ _ k.isLt]; omega)

/-- Every key lies in a block. -/
theorem key_surj (q : Fin 8192) : ∃ (k : Fin 16) (a : Fin 512), q = key k.val a := by
  refine ⟨⟨q.val / 512, by omega⟩, ⟨q.val % 512, by omega⟩, Fin.ext ?_⟩
  rw [key_val _ _ (by show q.val / 512 < 16; omega)]
  show q.val = 512 * (q.val / 512) + q.val % 512
  omega

variable {m c} {D : Data}

/-- What the attention call reads, in terms of the arguments. -/
theorem reads (h : Holds m c D) :
    Reads (V6 m ρ) c (fun b q H n => D.qn b q H n * ((√192)⁻¹ / Real.log 2))
      (fun b q H e => (if h : e.val < 64 then D.qp b q H ⟨e.val, h⟩ else 0) * ((√192)⁻¹ / Real.log 2))
      D.key D.val (fun b k e => if h : e.val < 64 then D.kp b k ⟨e.val, h⟩ else 0) where
  q_nope b q H n := by
    refine (congrFun (W6_of m ρ c main_v6 (by decide)) _).trans ?_
    rw [w5_q_nope, h.qn, aScale_eq, ← EReal.coe_mul]
  q_rope b q H e := by
    refine (congrFun (W6_of m ρ c main_v11 (by decide)) _).trans ?_
    rw [w5_q_rope, aScale_eq, EReal.coe_mul]
    split
    · rw [h.qp]
    · rfl
  k_rope b k e := by
    refine (congrFun (W6_of m ρ c main_v16 (by decide)) _).trans ?_
    rw [w5_k_rope]
    split
    · rw [h.kp]
    · rfl
  k_nope b k H n := by
    obtain ⟨kb, a, rfl⟩ := key_surj k
    refine (congrFun (W6_arr m ρ c 3) _).trans ?_
    rw [row_brow]
    refine (key_array _ c _ a _).trans ?_
    exact dotE_coe (fun r => (congrArg _ (congrArg (ix2 · r) (row_brow b kb a).symm)).trans ((w5_lat m ρ c b _ r).trans (h.lat ..)))
      (fun r => (w5_uk m ρ c r H n).trans (h.uk ..))
  value b kb H d a := by
    refine (congrFun (W6_arr m ρ c 4) _).trans ?_
    refine (val_array _ c _ a _).trans ?_
    exact dotE_coe (fun r => (w5_uv m ρ c r H d).trans (h.uv ..))
      (fun r => (congrArg _ (congrArg (ix2 · r) (row_brow b kb a).symm)).trans ((w5_lat m ρ c b _ r).trans (h.lat ..)))

/-- The kernel's result. -/
theorem kernel_out (h : Holds m c D) (b : Fin 4) (q : Fin 8192) (H : Fin 16) (d : Fin 128) :
    (W7 m ρ c (Proc.devRef .tc main_v23) (ix2 (row b q) (hc H d)) : EReal) = ((D.out b q H d : ℝ) : EReal) := by
  refine (congrFun (W7_arr m ρ c 5) _).trans ((attn_array (reads ρ h) b q H d).trans (congrArg _ ?_))
  rw [← D.attn_eq]
  refine congrArg (fun S => attn S _ q) (funext fun k => ?_)
  unfold score Data.logit
  rw [Fin.sum_univ_two_halves 64 64 rfl (fun n : Fin 128 => (if h : n.val < 64 then D.kp b k ⟨n.val, h⟩ else 0) * ((if h : n.val < 64 then D.qp b q H ⟨n.val, h⟩ else 0) * ((√192)⁻¹ / Real.log 2)))]
  have h1 : ∀ e : Fin 64, ¬ (64 + e.val < 64) := fun e => by omega
  simp only [h1, Fin.is_lt, dite_true, dite_false, zero_mul, Finset.sum_const_zero, add_zero, ← mul_assoc, ← Finset.sum_mul, ← add_mul]
  rw [mul_div_assoc]

end Cert.KernelIdeal.Att
-- ==== Proof.Run.lean ====
module

public import proofs.«01_k».proof.Proof.Spec
public import Idealize.ShloMosaic.Adequacy
public import Idealize.ShloMosaic.Init

@[expose] public section

set_option maxRecDepth 16384

noncomputable section

namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The kernel's run, with the contents of its result array. -/
theorem run : θ_run defs (onTc (τ := τ) (main (F := Ideal))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Att
-- ==== Proof.RefMax.lean ====
module

public import proofs.«01_k».proof.Proof.Spec
public import proofs.«01_k».proof.Proof.Gen.ReferenceIdeal.Read

@[expose] public section

set_option maxRecDepth 16384

noncomputable section

namespace Cert.ReferenceIdeal.Att
open Idealize.ShloMosaic Cert.ReferenceIdeal Cert.ReferenceIdeal.Gen Cert.ReferenceIdeal.Read
open Idealize.ShloMosaic.Pointwise Cert.Att

/-- The maximum along the last of four axes. -/
theorem maxLast (x : FVec Ideal S4x16x8192x8192 .f32) (z : FVec Ideal S_ .f32) (b : Fin 4) (H : Fin 16) (q : Fin 8192) :
    (Host.reduce (FloatOps.maximumf (F := Ideal) (φ := .f32)) x z reducesTo_S4x16x8192x8192_S4x16x8192_d3 h_S_ (ix3 b H q) : EReal)
      = Finset.univ.fold max (z (Shape.Idx.first h_S_) : EReal) (fun k : Fin 8192 => (x (ix4 b H q k) : EReal)) := by
  pointwise

end Cert.ReferenceIdeal.Att
-- ==== Proof.RefVal.lean ====
module

public import proofs.«01_k».proof.Proof.Spec
public import proofs.«01_k».proof.Proof.RefMax

@[expose] public section

set_option maxRecDepth 16384

noncomputable section

namespace Cert.ReferenceIdeal.Att
open Idealize.ShloMosaic Cert.ReferenceIdeal Cert.ReferenceIdeal.Gen Cert.ReferenceIdeal.Read
open Idealize.ShloMosaic.Pointwise Cert.Att

/-- A sum of products of real numbers, over the extended reals. -/
theorem sum_coe {n : ℕ} {f g : Fin n → EReal} {x y : Fin n → ℝ} (hf : ∀ r, f r = (x r : EReal)) (hg : ∀ r, g r = (y r : EReal)) :
    ∑ r, f r * g r = ((∑ r, x r * y r : ℝ) : EReal) := by
  rw [coe_sum]
  exact Finset.sum_congr rfl fun r _ => by rw [hf, hg, EReal.coe_mul]

variable (x0 : FVec Ideal S4x8192x16x128 .f32) (x1 : FVec Ideal S4x8192x16x64 .f32) (x2 : FVec Ideal S4x8192x512 .f32)
  (x3 : FVec Ideal S4x8192x64 .f32) (x4 x5 : FVec Ideal S512x16x128 .f32)

/-- The reference's arguments hold the real numbers `D`. -/
structure RHolds (D : Data) : Prop where
  qn : ∀ i, (x0 i : EReal) = (D.qn (i 0) (i 1) (i 2) (i 3) : EReal)
  qp : ∀ i, (x1 i : EReal) = (D.qp (i 0) (i 1) (i 2) (i 3) : EReal)
  lat : ∀ i, (x2 i : EReal) = (D.lat (i 0) (i 1) (i 2) : EReal)
  kp : ∀ i, (x3 i : EReal) = (D.kp (i 0) (i 1) (i 2) : EReal)
  uk : ∀ i, (x4 i : EReal) = (D.uk (i 0) (i 1) (i 2) : EReal)
  uv : ∀ i, (x5 i : EReal) = (D.uv (i 0) (i 1) (i 2) : EReal)

variable {x0 x1 x2 x3 x4 x5} {D : Data} (h : RHolds x0 x1 x2 x3 x4 x5 D)
include h

/-- The query moved to the latent space. -/
theorem qlat (i : S4x8192x16x512.Idx) :
    (val_main_v2 (F := Ideal) x0 x4 i : EReal) = ((∑ n : Fin 128, D.uk (i 3) (i 2) n * D.qn (i 0) (i 1) (i 2) n : ℝ) : EReal) := by
  rw [val_main_v2_apply, val_main_v1_apply]
  exact sum_coe (fun n => h.uk _) (fun n => h.qn _)

/-- The scaled score. -/
theorem scores (i : S4x16x8192x8192.Idx) :
    (val_main_v10 (F := Ideal) x0 x1 x2 x3 x4 i : EReal) = ((D.logit (i 0) (i 2) (i 1) (i 3) : ℝ) : EReal) := by
  have h3 : (val_main_v4 (F := Ideal) x0 x2 x4 i : EReal)
      = ((∑ r : Fin 512, D.lat (i 0) (i 3) r * ∑ n : Fin 128, D.uk r (i 1) n * D.qn (i 0) (i 2) (i 1) n : ℝ) : EReal) := by
    rw [val_main_v4_apply, val_main_v3_apply]
    exact sum_coe (fun r => h.lat _) (fun r => qlat h _)
  have h6 : (val_main_v6 (F := Ideal) x1 x3 i : EReal)
      = ((∑ e : Fin 64, D.kp (i 0) (i 3) e * D.qp (i 0) (i 2) (i 1) e : ℝ) : EReal) := by
    rw [val_main_v6_apply, val_main_v5_apply]
    exact sum_coe (fun e => h.kp _) (fun e => h.qp _)
  have h8 : (val_main_v9 (F := Ideal) i : EReal) = (((√192)⁻¹ : ℝ) : EReal) := by
    rw [val_main_v9_apply]
    exact Cert.KernelIdeal.Att.rsqrt_192
  have h7 : (val_main_v10 (F := Ideal) x0 x1 x2 x3 x4 i : EReal)
      = ((val_main_v4 (F := Ideal) x0 x2 x4 i : EReal) + (val_main_v6 (F := Ideal) x1 x3 i : EReal)) * (val_main_v9 (F := Ideal) i : EReal) := rfl
  rw [h7, h3, h6, h8, ← EReal.coe_add, ← EReal.coe_mul]
  refine congrArg _ ?_
  unfold Data.logit Data.key
  refine congrArg (· * (√192)⁻¹) (congrArg (· + _) ?_)
  simp only [Finset.mul_sum, Finset.sum_mul]
  rw [Finset.sum_comm]
  exact Finset.sum_congr rfl fun n _ => Finset.sum_congr rfl fun r _ => by ring

omit h in
/-- The chunk of a position, as the host's word division has it. -/
theorem chunk (i : S8192.Idx) : val_main_v11 (F := Ideal) i = BitVec.ofNat 32 ((i 0).val / 64) := by
  have key : ∀ (a : Fin 128) (b : Fin 64), val_main_v11 (F := Ideal) (ix1 (⟨64 * a.val + b.val, by omega⟩ : Fin 8192)) = BitVec.ofNat 32 a.val := by
    decide +kernel
  have hi : (i 0).val < 8192 := (i 0).isLt
  have h1 := key ⟨(i 0).val / 64, by omega⟩ ⟨(i 0).val % 64, by omega⟩
  rw [← h1]
  refine congrArg _ (funext fun a => ?_)
  match a with
  | 0 => exact Fin.ext (by show (i 0).val = 64 * ((i 0).val / 64) + (i 0).val % 64; omega)

/-- The masked score. -/
theorem masked (i : S4x16x8192x8192.Idx) :
    (val_main_v19 (F := Ideal) x0 x1 x2 x3 x4 i : EReal)
      = sc (fun k : Fin 8192 => k.val / 64 ≤ (i 2).val / 64) (fun k => D.logit (i 0) (i 2) (i 1) k) (i 3) := by
  have hle : ∀ x y : Fin 128, IntOp.cmpi CmpIPredicate.sle (BitVec.ofNat 32 x.val) (BitVec.ofNat 32 y.val) = if x.val ≤ y.val then 1#1 else 0#1 := by
    decide +kernel
  have h3 : (i 3).val < 8192 := (i 3).isLt
  have h2 : (i 2).val < 8192 := (i 2).isLt
  have hc : val_main_call2_v1 (F := Ideal) i = if (i 3).val / 64 ≤ (i 2).val / 64 then 1#1 else 0#1 := by
    rw [val_main_call2_v1_apply, val_main_v18_apply, val_main_v17_apply, val_main_v15_apply, val_main_v16_apply, val_main_v12_apply, val_main_v14_apply, chunk]
    refine Eq.trans (congrArg (IntOp.cmpi _ _) (chunk _)) ?_
    exact hle ⟨(i 3).val / 64, by omega⟩ ⟨(i 2).val / 64, by omega⟩
  rw [val_main_v19_apply, hc]
  unfold sc
  split_ifs
  · exact scores h i
  · refine (val_main_call2_v2_apply i).trans ?_
    show (Ideal.ofBits .f32 0xFF800000#32 : EReal) = ⊥
    simp [Ideal.ofBits, Ideal.ieee]

/-- The largest masked score. -/
theorem maximum (b : Fin 4) (H : Fin 16) (q : Fin 8192) :
    (val_main_v22 (F := Ideal) x0 x1 x2 x3 x4 (ix3 b H q) : EReal)
      = max ⊥ (Finset.univ.fold max ⊥ (sc (fun k : Fin 8192 => k.val / 64 ≤ q.val / 64) (fun k => D.logit b q H k))) := by
  have hb : (Ideal.ofBits .f32 0xFF800000#32 : EReal) = ⊥ := by simp [Ideal.ofBits, Ideal.ieee]
  rw [val_main_v22_apply]
  refine congrArg₂ (α := EReal) (β := EReal) max ?_ ((maxLast _ _ b H q).trans ?_)
  · exact (val_main_v21_apply _).trans hb
  · refine (congrArg₂ (fun z f => Finset.univ.fold (max : EReal → EReal → EReal) z f) hb (funext fun k => ?_))
    exact masked h (ix4 b H q k)

end Cert.ReferenceIdeal.Att
-- ==== Proof.RefOut.lean ====
module

public import proofs.«01_k».proof.Proof.RefVal

@[expose] public section

set_option maxRecDepth 16384

noncomputable section

namespace Cert.ReferenceIdeal.Att
open Idealize.ShloMosaic Cert.ReferenceIdeal Cert.ReferenceIdeal.Gen Cert.ReferenceIdeal.Read
open Idealize.ShloMosaic.Pointwise Cert.Att Cert.KernelIdeal.Att

variable {x0 : FVec Ideal S4x8192x16x128 .f32} {x1 : FVec Ideal S4x8192x16x64 .f32} {x2 : FVec Ideal S4x8192x512 .f32}
  {x3 : FVec Ideal S4x8192x64 .f32} {x4 x5 : FVec Ideal S512x16x128 .f32} {D : Data} (h : RHolds x0 x1 x2 x3 x4 x5 D)
include h

/-- The softmax weights. -/
theorem probs (i : S4x16x8192x8192.Idx) :
    (val_main_v30 (F := Ideal) x0 x1 x2 x3 x4 i : EReal)
      = ((D.weight (i 0) (i 2) (i 1) (i 3) / ∑ k : Fin 8192, D.weight (i 0) (i 2) (i 1) k : ℝ) : EReal) := by
  obtain ⟨r, hr, -, hq⟩ := softmax_sum (fun k : Fin 8192 => k.val / 64 ≤ (i 2).val / 64) (fun k => D.logit (i 0) (i 2) (i 1) k) (i 2) le_rfl
  have hm : ∀ j : S4x16x8192x8192.Idx, j 0 = i 0 → j 1 = i 1 → j 2 = i 2 →
      (val_main_v26 (F := Ideal) x0 x1 x2 x3 x4 j : EReal)
        = Ideal.exp (sc (fun k : Fin 8192 => k.val / 64 ≤ (i 2).val / 64) (fun k => D.logit (i 0) (i 2) (i 1) k) (j 3) - (r : EReal)) := by
    intro j h0 h1 h2
    rw [val_main_v26_apply, val_main_v25_apply, val_main_v24_apply, val_main_v23_apply]
    have e : idx_main_v23 (idx_main_v24 j) = ix3 (i 0) (i 1) (i 2) := funext fun a => match a with
      | 0 => h0
      | 1 => h1
      | 2 => h2
    rw [e]
    have e1 := masked h j
    rw [h0, h1, h2] at e1
    have e2 := (maximum h (i 0) (i 1) (i 2)).trans hr
    exact congrArg₂ (fun x y : EReal => Ideal.exp (x - y)) e1 e2
  have hz : (val_main_cst_4 (F := Ideal) (Shape.Idx.first h_S_) : EReal) = 0 := by
    show (Ideal.ofBits .f32 0x00000000#32 : EReal) = 0
    simp [Ideal.ofBits, Ideal.ieee]
  have hs : (val_main_v29 (F := Ideal) x0 x1 x2 x3 x4 i : EReal)
      = ∑ k : Fin 8192, Ideal.exp (sc (fun k : Fin 8192 => k.val / 64 ≤ (i 2).val / 64) (fun k => D.logit (i 0) (i 2) (i 1) k) k - (r : EReal)) := by
    rw [val_main_v29_apply, val_main_v28_apply, val_main_v27_apply, hz, zero_add]
    exact Finset.sum_congr rfl fun k _ => hm _ rfl rfl rfl
  rw [val_main_v30_apply, hs, hm i rfl rfl rfl]
  exact hq (i 3)

/-- The reference's result, before it is flattened. -/
theorem ref_attn (i : S4x8192x16x128.Idx) :
    (val_main_v34 (F := Ideal) x0 x1 x2 x3 x4 x5 i : EReal) = ((D.out (i 0) (i 1) (i 2) (i 3) : ℝ) : EReal) := by
  have hl : ∀ j, (val_main_v32 (F := Ideal) x0 x1 x2 x3 x4 j : EReal)
      = ((∑ k : Fin 8192, D.lat (j 0) k (j 3) * (D.weight (j 0) (j 1) (j 2) k / ∑ k : Fin 8192, D.weight (j 0) (j 1) (j 2) k) : ℝ) : EReal) := by
    intro j
    rw [val_main_v32_apply, val_main_v31_apply]
    exact sum_coe (fun k => h.lat _) (fun k => probs h _)
  rw [val_main_v34_apply, val_main_v33_apply]
  refine (sum_coe (fun r => h.uv _) (fun r => hl _)).trans (congrArg _ ?_)
  unfold Data.out Data.val
  rw [Finset.sum_div]
  simp only [Finset.mul_sum, Finset.sum_div]
  rw [Finset.sum_comm]
  refine Finset.sum_congr rfl fun k _ => Finset.sum_congr rfl fun r _ => ?_
  refine Eq.trans (b := D.uv r (i 2) (i 3) * (D.lat (i 0) k r * (D.weight (i 0) (i 1) (i 2) k / ∑ k, D.weight (i 0) (i 1) (i 2) k))) rfl ?_
  ring

/-- The reference's result. -/
theorem ref_out (b : Fin 4) (q : Fin 8192) (H : Fin 16) (d : Fin 128) :
    (val_main_v36 (F := Ideal) x0 x1 x2 x3 x4 x5 (ix2 (row b q) (hc H d)) : EReal) = ((D.out b q H d : ℝ) : EReal) := by
  rw [val_main_v36_apply, val_main_v35_apply]
  have e : idx_main_v35 (ix2 (row b q) (hc H d)) = ix4 b q H d := funext fun a => match a with
    | 0 => Fin.ext (by show ((8192 * b.val + q.val) * 2048 + (128 * H.val + d.val)) / 16777216 = b.val; omega)
    | 1 => Fin.ext (by show ((8192 * b.val + q.val) * 2048 + (128 * H.val + d.val)) / 2048 % 8192 = q.val; omega)
    | 2 => Fin.ext (by show ((8192 * b.val + q.val) * 2048 + (128 * H.val + d.val)) / 128 % 16 = H.val; omega)
    | 3 => Fin.ext (by show ((8192 * b.val + q.val) * 2048 + (128 * H.val + d.val)) % 128 = d.val; omega)
  rw [e]
  exact ref_attn h (ix4 b q H d)

end Cert.ReferenceIdeal.Att
-- ==== Proof.Same.lean ====
module

public import proofs.«01_k».proof.Proof.RefOut
public import proofs.«01_k».proof.Pre_finite

@[expose] public section

set_option maxRecDepth 16384

noncomputable section

namespace Cert.Same
open Idealize.ShloMosaic Idealize.ShloMosaic.TcCoe Idealize.ShloMosaic.Pointwise
open Cert.Att Cert.KernelIdeal.Att Cert.ReferenceIdeal.Att

/-- The side conditions of the precondition's operations. -/
instance preFacts : Cert.Pre_finite.Facts where
  bcast_S_S4x8192x16x128 := by decide
  bcast_S_S4x8192x16x64 := by decide
  bcast_S_S4x8192x512 := by decide
  bcast_S_S4x8192x64 := by decide
  bcast_S_S512x16x128 := by decide

/-- An extended real whose absolute value lies below infinity is a real number. -/
theorem real_of_abs_lt {x : EReal} (h : BitVec.ofBool (decide (max x (-x) < ⊤)) = 1#1) : x = ((x.toReal : ℝ) : EReal) := by
  have hl : max x (-x) < ⊤ := by
    by_contra hn
    simp [hn] at h
  refine (EReal.coe_toReal (fun e => ?_) (fun e => ?_)).symm <;> simp [e] at hl

/-- The pattern of plus infinity. -/
theorem inf_bits : (Ideal.ofBits .f32 0x7F800000#32 : EReal) = ⊤ := by
  simp [Ideal.ofBits, Ideal.ieee]

/-- An array that passes the finiteness test holds real numbers. -/
theorem real_of_finite {S : Shape} (x : FVec Ideal S .f32) (hb : (⟨0, ![]⟩ : Shape).BroadcastsInDim S (![] : Fin 0 → Fin S.rank))
    (h : cmpf (F := Ideal) .olt (Host.absf x) (broadcastInDim S ![] hb (constant (F := Ideal) ⟨0, ![]⟩ .f32 0x7F800000#32)) = fun _ => 1#1)
    (i : S.Idx) : (x i : EReal) = (((x i : EReal).toReal : ℝ) : EReal) := by
  refine real_of_abs_lt ?_
  have hi : BitVec.ofBool (decide (max (x i : EReal) (-(x i : EReal)) < Ideal.ofBits .f32 0x7F800000#32)) = 1#1 := congrFun h i
  rwa [inf_bits] at hi

open Cert.ReferenceIdeal in
/-- The real numbers that six arrays hold. -/
def dataOf (x0 : FVec Ideal S4x8192x16x128 .f32) (x1 : FVec Ideal S4x8192x16x64 .f32) (x2 : FVec Ideal S4x8192x512 .f32)
    (x3 : FVec Ideal S4x8192x64 .f32) (x4 x5 : FVec Ideal S512x16x128 .f32) : Data where
  qn b q H n := (x0 (ix4 b q H n) : EReal).toReal
  qp b q H e := (x1 (ix4 b q H e) : EReal).toReal
  lat b k r := (x2 (ix3 b k r) : EReal).toReal
  kp b k e := (x3 (ix3 b k e) : EReal).toReal
  uk r H n := (x4 (ix3 r H n) : EReal).toReal
  uv r H d := (x5 (ix3 r H d) : EReal).toReal

/-- A four-dimensional array of real numbers, by its coordinates. -/
theorem by_coords4 {n0 n1 n2 n3 : ℕ} (x : FVec Ideal ⟨4, ![n0, n1, n2, n3]⟩ .f32)
    (h : ∀ i, (x i : EReal) = (((x i : EReal).toReal : ℝ) : EReal)) (i) :
    (x i : EReal) = (((x (ix4 (i 0) (i 1) (i 2) (i 3)) : EReal).toReal : ℝ) : EReal) := by
  rw [← eq_ix4 i]; exact h i

/-- A three-dimensional array of real numbers, by its coordinates. -/
theorem by_coords3 {n0 n1 n2 : ℕ} (x : FVec Ideal ⟨3, ![n0, n1, n2]⟩ .f32)
    (h : ∀ i, (x i : EReal) = (((x i : EReal).toReal : ℝ) : EReal)) (i) :
    (x i : EReal) = (((x (ix3 (i 0) (i 1) (i 2)) : EReal).toReal : ℝ) : EReal) := by
  rw [← eq_ix3 i]; exact h i

/-- Every element of the result is a component of a head's output for a query. -/
theorem out_index (i : (⟨2, ![32768, 2048]⟩ : Shape).Idx) : ∃ b q H d, i = ix2 (row b q) (hc H d) := by
  have h0 : (i 0).val < 32768 := (i 0).isLt
  have h1 : (i 1).val < 2048 := (i 1).isLt
  refine ⟨⟨(i 0).val / 8192, by omega⟩, ⟨(i 0).val % 8192, by omega⟩, ⟨(i 1).val / 128, by omega⟩, ⟨(i 1).val % 128, by omega⟩,
    (eq_ix2 i).trans (congrArg₂ ix2 (Fin.ext ?_) (Fin.ext ?_))⟩
  · show (i 0).val = 8192 * ((i 0).val / 8192) + (i 0).val % 8192
    omega
  · show (i 1).val = 128 * ((i 1).val / 128) + (i 1).val % 128
    omega

section
open Cert.KernelIdeal Cert.KernelIdeal.Gen

variable (m : (ℓ : Loc nD τ sig) → Buf (Elt Ideal) ℓ) (ρ : Dev nD → PrngReg) (c : Dev nD)

/-- The arrays the kernel and the reference take, all of real numbers. -/
structure Real6 : Prop where
  a0 : ∀ i, (m (c.tc.loc main_arg0) i : EReal) = (((m (c.tc.loc main_arg0) i : EReal).toReal : ℝ) : EReal)
  a1 : ∀ i, (m (c.tc.loc main_arg1) i : EReal) = (((m (c.tc.loc main_arg1) i : EReal).toReal : ℝ) : EReal)
  a2 : ∀ i, (m (c.tc.loc main_arg2) i : EReal) = (((m (c.tc.loc main_arg2) i : EReal).toReal : ℝ) : EReal)
  a3 : ∀ i, (m (c.tc.loc main_arg3) i : EReal) = (((m (c.tc.loc main_arg3) i : EReal).toReal : ℝ) : EReal)
  a4 : ∀ i, (m (c.tc.loc main_arg4) i : EReal) = (((m (c.tc.loc main_arg4) i : EReal).toReal : ℝ) : EReal)
  a5 : ∀ i, (m (c.tc.loc main_arg5) i : EReal) = (((m (c.tc.loc main_arg5) i : EReal).toReal : ℝ) : EReal)

/-- Of finite arguments the kernel's result is the reference's. -/
theorem same (h : Real6 m c) :
    W7 m ρ c (Proc.devRef .tc main_v23) = Cert.ReferenceIdeal.Read.val_main_v36 (F := Ideal) (m (c.tc.loc main_arg0)) (m (c.tc.loc main_arg1))
      (m (c.tc.loc main_arg2)) (m (c.tc.loc main_arg3)) (m (c.tc.loc main_arg4)) (m (c.tc.loc main_arg5)) := by
  have hK : Holds m c (dataOf (m (c.tc.loc main_arg0)) (m (c.tc.loc main_arg1)) (m (c.tc.loc main_arg2)) (m (c.tc.loc main_arg3))
      (m (c.tc.loc main_arg4)) (m (c.tc.loc main_arg5))) :=
    ⟨fun _ _ _ _ => h.a0 _, fun _ _ _ _ => h.a1 _, fun _ _ _ => h.a2 _, fun _ _ _ => h.a3 _, fun _ _ _ => h.a4 _, fun _ _ _ => h.a5 _⟩
  have hR : RHolds (m (c.tc.loc main_arg0)) (m (c.tc.loc main_arg1)) (m (c.tc.loc main_arg2)) (m (c.tc.loc main_arg3))
      (m (c.tc.loc main_arg4)) (m (c.tc.loc main_arg5)) (dataOf (m (c.tc.loc main_arg0)) (m (c.tc.loc main_arg1)) (m (c.tc.loc main_arg2))
      (m (c.tc.loc main_arg3)) (m (c.tc.loc main_arg4)) (m (c.tc.loc main_arg5))) :=
    ⟨by_coords4 _ h.a0, by_coords4 _ h.a1, by_coords3 _ h.a2, by_coords3 _ h.a3, by_coords3 _ h.a4, by_coords3 _ h.a5⟩
  refine funext fun i => ?_
  obtain ⟨b, q, H, d, rfl⟩ := out_index i
  exact (kernel_out ρ hK b q H d).trans (ref_out hR b q H d).symm
end

end Cert.Same
-- ==== Proof.FfnRun.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.VecWindow

@[expose] public section

set_option maxRecDepth 16384

noncomputable section

namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The down product of the first tile starts the accumulator. -/
abbrev first (i : grid0.Coords) : BitVec 1 :=
  Scalar.cmpi .ne (Scalar.extui (Scalar.cmpi .eq (BitVec.ofNat 32 (i 1).val) 0#32) : BitVec 32) 0#32

/-- The down product of a later tile is added to the accumulator. -/
abbrev later (i : grid0.Coords) : BitVec 1 :=
  Scalar.cmpi .ne (Scalar.extui (Scalar.cmpi .sgt (BitVec.ofNat 32 (i 1).val) 0#32) : BitVec 32) 0#32

variable (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S1x2x512 .f32) (harg11 : arg11.IsWhole) (arg12 : Memref sig .tc .vmem S512x2048 .f32) (harg12 : arg12.IsWhole) (arg13 : Memref sig .tc .vmem S11x8x512 .f32) (harg13 : arg13.IsWhole)

/-- The tile's gated rows: the gate's columns after the causal convolution and `x / (1 + exp (-x))`, times the up columns. -/
abbrev tile (x0 : Vec F S512x2048 .bf16) (x2 x3 : Vec F S2048x512 .bf16) (x4 : Vec F S3x512 .f32) (x5 : Vec F S1x512 .f32)
    (p : Vec F S1x8x512 .f32) : FVec F S512x512 .bf16 :=
  k0_pay12 (k0_pay6 x0 x2) (k0_pay7 x0 x3) (k0_pay9 p) x4 x5

/-- The carried rows a point starts from: zeros at the first rows of a prompt, else the slot of its column tile. -/
def prevOf (C : Vec F S11x8x512 .f32) : Vec F S1x8x512 .f32 :=
  if k0_cond1 i = 1#1 then k0_pay8 else VecWindow.window C (k0_off2 i) S1x8x512.size (k0_off2_inb i)

/-- The accumulator after the point: its tile's product, over the earlier ones unless it is the first. -/
def accOf (v : FVec F S512x512 .bf16) (x6 : Vec F S512x2048 .bf16) (A : Vec F S512x2048 .f32) : Vec F S512x2048 .f32 :=
  if first i = 1#1 then k0_pay2 v x6 else k0_pay3 v x6 A

/-- The zeros are stored in the slot of the point's column tile. -/
theorem fresh_put (f : arg13.view.ty.Contents (Elt F)) (h1 : k0_cond1 i = 1#1) :
    arg13.view.read (Elt F) (arg13.view.writes (Elt F) f
        [⟨Rect.unit (s := S11x8x512) (k0_off1 i) S1x8x512.size (k0_off1_inb i h1), k0_pay8 (F := F)⟩])
      = VecWindow.put (arg13.view.read (Elt F) f) (k0_off2 i) S1x8x512.size (k0_pay8 (F := F)) :=
  View.read_writes_cons_put arg13.view f (k0_off1_inb i h1) _ [] rfl

/-- The point's rows stored over the zeros leave no trace of the zeros. -/
theorem fresh_carry (C : Vec F S11x8x512 .f32) (w : Vec F S1x8x512 .f32) (h1 : k0_cond1 i = 1#1)
    (f : arg13.view.ty.Contents (Elt F)) (hf : arg13.view.read (Elt F) f = C) :
    VecWindow.put (arg13.view.read (Elt F) (arg13.view.writes (Elt F) f
        [⟨Rect.unit (s := S11x8x512) (k0_off1 i) S1x8x512.size (k0_off1_inb i h1), k0_pay8 (F := F)⟩])) (k0_off2 i) S1x8x512.size w
      = VecWindow.put C (k0_off2 i) S1x8x512.size w := by
  rw [fresh_put i arg13 _ h1, hf]
  exact VecWindow.put_put_same _ _ _ _ _

/-- After the zeros are stored the slot's load reads the zeros. -/
theorem fresh_eq (C : Vec F S11x8x512 .f32) (h1 : k0_cond1 i = 1#1) :
    arg13.view.readCov (Val := Elt F) [⟨Rect.unit (s := S11x8x512) (k0_off1 i) S1x8x512.size (k0_off1_inb i h1), k0_pay8 (F := F)⟩]
      (Rect.unit (s := S11x8x512) (k0_off2 i) S1x8x512.size (k0_off2_inb i)).toLoadRect = prevOf i C := by
  rw [prevOf, if_pos h1]
  refine (View.readAt_unit _ _ _ rfl (k0_off2_inb i)).trans ?_
  rw [fresh_put i arg13 _ h1]
  exact VecWindow.window_put_same _ _ _ _ _

/-- Where no zeros are stored the slot's load reads what the slot held. -/
theorem kept_eq (C : Vec F S11x8x512 .f32) (h1 : ¬ k0_cond1 i = 1#1) :
    arg13.view.readAt (Elt F) (Rect.unit (s := S11x8x512) (k0_off2 i) S1x8x512.size (k0_off2_inb i)).toLoadRect (harg13.unread C) = prevOf i C := by
  rw [prevOf, if_neg h1]
  refine (View.readAt_unit _ _ _ rfl (k0_off2_inb i)).trans ?_
  rw [harg13.read_unread]

/-- The output rows after the point: written at the last tile only. -/
def outOf (x1 A o : Vec F S512x2048 .f32) (x7 : Vec F S1x2048 .f32) : Vec F S512x2048 .f32 :=
  if k0_cond4 i = 1#1 then k0_pay4 x1 A x7 else o

set_option maxHeartbeats 4000000 in
/-- One grid point: from its blocks, the accumulator and the carried rows, it leaves the four results above. -/
theorem run (x0 y0 : Vec F S512x2048 .bf16) (x1 y1 : Vec F S512x2048 .f32) (x2 y2 x3 y3 : Vec F S2048x512 .bf16) (x4 y4 : Vec F S3x512 .f32)
    (x5 y5 : Vec F S1x512 .f32) (x6 y6 : Vec F S512x2048 .bf16) (x7 y7 : Vec F S1x2048 .f32)
    (o : Vec F S512x2048 .f32) (A A' : Vec F S512x2048 .f32) (C : Vec F S11x8x512 .f32) (K : PUnit → sProp 𝕄)
    (hl : later i = 1#1 ↔ ¬ first i = 1#1)
    (e0 : arg2.view.readAt (Elt F) (Rect.unit ![0, 0] S512x2048.size inb_S512x2048_S512x2048_0_0).toLoadRect (harg2.unread x0) = y0)
    (e1 : arg3.view.readAt (Elt F) (Rect.unit ![0, 0] S512x2048.size inb_S512x2048_S512x2048_0_0).toLoadRect (harg3.unread x1) = y1)
    (e2 : arg4.view.readAt (Elt F) (Rect.unit ![0, 0] S2048x512.size inb_S2048x512_S2048x512_0_0).toLoadRect (harg4.unread x2) = y2)
    (e3 : arg5.view.readAt (Elt F) (Rect.unit ![0, 0] S2048x512.size inb_S2048x512_S2048x512_0_0).toLoadRect (harg5.unread x3) = y3)
    (e4 : arg6.view.readAt (Elt F) (Rect.unit ![0, 0] S3x512.size inb_S3x512_S3x512_0_0).toLoadRect (harg6.unread x4) = y4)
    (e5 : arg7.view.readAt (Elt F) (Rect.unit ![0, 0] S1x512.size inb_S1x512_S1x512_0_0).toLoadRect (harg7.unread x5) = y5)
    (e6 : arg8.view.readAt (Elt F) (Rect.unit ![0, 0] S512x2048.size inb_S512x2048_S512x2048_0_0).toLoadRect (harg8.unread x6) = y6)
    (e7 : arg9.view.readAt (Elt F) (Rect.unit ![0, 0] S1x2048.size inb_S1x2048_S1x2048_0_0).toLoadRect (harg9.unread x7) = y7)
    (eA : arg12.view.readAt (Elt F) (Rect.unit ![0, 0] S512x2048.size inb_S512x2048_S512x2048_0_0).toLoadRect (harg12.unread A) = A') :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare o ∗ (∃ d, owns (c : Thread nD τ) arg11 fullShare d)
        ∗ owns (c : Thread nD τ) arg12 fullShare A ∗ owns (c : Thread nD τ) arg13 fullShare C
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (outOf i y1 (accOf i (tile y0 y2 y3 y4 y5 (prevOf i C)) y6 A') o y7)
        ∗ owns (c : Thread nD τ) arg11 fullShare (k0_pay11 y0 y2)
        ∗ owns (c : Thread nD τ) arg12 fullShare (accOf i (tile y0 y2 y3 y4 y5 (prevOf i C)) y6 A')
        ∗ owns (c : Thread nD τ) arg13 fullShare (VecWindow.put C (k0_off2 i) S1x8x512.size (k0_pay10 y0 y2))) -∗ K PUnit.unit))
      ⊢ wp frame (wpE (defs₀ (F := F)) Variants.none c none) Set.univ (cc0_ffn_prompt i arg2 harg2 arg3 harg3 arg4 harg4 arg5 harg5 arg6 harg6 arg7 harg7 arg8 harg8 arg9 harg9 arg10 harg10 arg11 harg11 arg12 harg12 arg13 harg13) K := by
  simp only [cc0_ffn_prompt_eq_skeleton]; unfold cc0_ffn_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fA, %hfA, HA⟩, ⟨%fC, %hfC, HC⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg12.eq_unread hfA; obtain rfl := harg13.eq_unread hfC
  by_cases h1 : k0_cond1 i = 1#1 <;> by_cases h2 : first i = 1#1 <;> by_cases h4 : k0_cond4 i = 1#1
  all_goals
    first
      | (have h3 : ¬ later i = 1#1 := fun h => hl.1 h h2)
      | (have h3 : later i = 1#1 := hl.2 h2)
    sl_exec
    sl_step
    first
      | have hp := fresh_eq i arg13 C h1
      | have hp := kept_eq i arg13 harg13 C h1
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      first
        | (rw [outOf, if_neg h4]; exact hf8)
        | (rw [outOf, if_pos h4, accOf, if_pos h2]
           exact (View.read_writes_full _ _ _ _ _).trans (congrArg (fun q => k0_pay4 y1 q y7)
             ((View.readCov_full _ _ _ _ _).trans (congrArg (fun q => k0_pay2 (tile y0 y2 y3 y4 y5 q) y6) hp))))
        | (rw [outOf, if_pos h4, accOf, if_neg h2]
           exact (View.read_writes_full _ _ _ _ _).trans (congrArg (fun q => k0_pay4 y1 q y7)
             ((View.readCov_full _ _ _ _ _).trans (congrArg (fun q => k0_pay3 (tile y0 y2 y3 y4 y5 q) y6 A') hp))))
    isplitl [H9]
    · iexists _; isplitr; swap; · iexact H9
      ipureintro
      exact View.read_writes_full _ _ _ _ _
    isplitl [HA]
    · iexists _; isplitr; swap; · iexact HA
      ipureintro
      first
        | (rw [accOf, if_pos h2]
           exact (View.read_writes_full _ _ _ _ _).trans (congrArg (fun q => k0_pay2 (tile y0 y2 y3 y4 y5 q) y6) hp))
        | (rw [accOf, if_neg h2]
           exact (View.read_writes_full _ _ _ _ _).trans (congrArg (fun q => k0_pay3 (tile y0 y2 y3 y4 y5 q) y6 A') hp))
    iexists _; isplitr; swap; · iexact HC
    ipureintro
    refine (View.read_writes_cons_put _ _ _ _ _ rfl).trans ?_
    first
      | (rw [View.writes_nil, hfC]; done)
      | exact fresh_carry i arg13 C (k0_pay10 y0 y2) h1 _ hfC

end Cert.Kernel2Ideal.Ffn
-- ==== Proof.FfnInv.lean ====
module

public import proofs.«01_k».proof.Proof.FfnRun

@[expose] public section

set_option maxRecDepth 16384

noncomputable section

namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.Pipeline (Dat Cfg Window BodyObligation cellOf)

/-! ## Where a point lies in the grid -/

/-- The two coordinates of point `t`: its row block and its column tile. -/
theorem coords_val (t : Fin grid0.N) : (grid0.coords t 0).val = t.val / 11 ∧ (grid0.coords t 1).val = t.val % 11 := by
  revert t; decide +kernel

/-- The first tile of a row block. -/
theorem first_iff (t : Fin grid0.N) : first (grid0.coords t) = 1#1 ↔ t.val % 11 = 0 := by
  revert t; decide +kernel
/-- The tiles after the first. -/
theorem later_iff (t : Fin grid0.N) : later (grid0.coords t) = 1#1 ↔ ¬ t.val % 11 = 0 := by
  revert t; decide +kernel
/-- The last tile of a row block. -/
theorem last_iff (t : Fin grid0.N) : k0_cond4 (grid0.coords t) = 1#1 ↔ t.val % 11 = 10 := by
  revert t; decide +kernel
/-- The row blocks that begin a prompt. -/
theorem fresh_iff (t : Fin grid0.N) : k0_cond1 (grid0.coords t) = 1#1 ↔ t.val / 11 % 16 = 0 := by
  revert t; decide +kernel
/-- The carried rows' first offset is the tile's number. -/
theorem off_zero (t : Fin grid0.N) : k0_off2 (grid0.coords t) 0 = t.val % 11 := by
  revert t; decide +kernel

/-- The offsets of the carried rows of point `t`'s column tile. -/
theorem off_eq (t : Fin grid0.N) : k0_off2 (grid0.coords t) = ![t.val % 11, 0, 0] := by
  funext a
  match a with
  | 0 => exact off_zero t
  | 1 => rfl
  | 2 => rfl

variable {F : FTy → Type} [FloatOps F] (m : (ℓ : Loc nD τ sig) → Buf (Elt F) ℓ) (c : Dev nD)

/-- The carried rows of a tile lie in the scratch buffer. -/
theorem slot_inb (n : ℕ) (a : Fin 3) : (![n % 11, 0, 0] : Fin 3 → ℕ) a + S1x8x512.size a ≤ S11x8x512.size a := by
  have := Nat.mod_lt n (show 0 < 11 by decide)
  match a with
  | 0 => show n % 11 + 1 ≤ 11; omega
  | 1 => show 0 + 8 ≤ 8; omega
  | 2 => show 0 + 512 ≤ 512; omega

/-- The carried rows of point `n`'s column tile. -/
def slot (C : Vec F S11x8x512 .f32) (n : ℕ) : Vec F S1x8x512 .f32 :=
  VecWindow.window C ![n % 11, 0, 0] S1x8x512.size (slot_inb n)

/-- Windows at equal offsets are equal. -/
theorem window_congr (C : Vec F S11x8x512 .f32) {o o' : Fin 3 → ℕ} (h : o = o') (hb : ∀ a, o a + S1x8x512.size a ≤ S11x8x512.size a)
    (hb' : ∀ a, o' a + S1x8x512.size a ≤ S11x8x512.size a) :
    VecWindow.window C o S1x8x512.size hb = VecWindow.window C o' S1x8x512.size hb' := by
  subst h; rfl

/-- What is stored in a tile's slot is read back. -/
theorem slot_put_same (C : Vec F S11x8x512 .f32) (w : Vec F S1x8x512 .f32) (n : ℕ) :
    slot (VecWindow.put C ![n % 11, 0, 0] S1x8x512.size w) n = w :=
  VecWindow.window_put_same _ _ _ _ _

/-- Other tiles' slots are left alone. -/
theorem slot_put_other (C : Vec F S11x8x512 .f32) (w : Vec F S1x8x512 .f32) (n k : ℕ) (h : k % 11 ≠ n % 11) :
    slot (VecWindow.put C ![n % 11, 0, 0] S1x8x512.size w) k = slot C k :=
  VecWindow.window_put_of_disjoint _ _ _ _ _ _ _ (0 : Fin 3) (by
    show k % 11 + 1 ≤ n % 11 ∨ n % 11 + 1 ≤ k % 11
    omega)

/-! ## What the points leave -/

/-- The last eight gate rows of point `t`'s block. -/
def tail (t : Fin cfg0.N) : Vec F S1x8x512 .f32 := k0_pay10 (iblk m c 0 t) (iblk m c 2 t)

/-- The carried rows point `t` starts from: those of the row block before, or zeros where a prompt begins. -/
def prev (t : Fin cfg0.N) : Vec F S1x8x512 .f32 :=
  if t.val / 11 % 16 = 0 then k0_pay8 else tail m c ⟨t.val - 11, Nat.lt_of_le_of_lt (Nat.sub_le _ _) t.isLt⟩

/-- The gated rows of point `t`. -/
def act (t : Fin cfg0.N) : FVec F S512x512 .bf16 :=
  tile (iblk m c 0 t) (iblk m c 2 t) (iblk m c 3 t) (iblk m c 4 t) (iblk m c 5 t) (prev m c t)

/-- The accumulator after point `n`: its row block's tiles so far. -/
def acc : (n : ℕ) → n < cfg0.N → Vec F S512x2048 .f32
  | 0, h => k0_pay2 (act m c ⟨0, h⟩) (iblk m c 6 ⟨0, h⟩)
  | n + 1, h =>
    if (n + 1) % 11 = 0 then k0_pay2 (act m c ⟨n + 1, h⟩) (iblk m c 6 ⟨n + 1, h⟩)
    else k0_pay3 (act m c ⟨n + 1, h⟩) (iblk m c 6 ⟨n + 1, h⟩) (acc n (Nat.lt_of_succ_lt h))

/-- The rows written at the last tile of a row block. -/
def rows (t : Fin cfg0.N) : Vec F S512x2048 .f32 := k0_pay4 (iblk m c 1 t) (acc m c t.val t.isLt) (iblk m c 7 t)

/-- What the two scratch buffers hold before point `n`. -/
def Inv (n : ℕ) (A : Vec F S512x2048 .f32) (C : Vec F S11x8x512 .f32) : Prop :=
  (∀ k (h : k < cfg0.N), n = k + 1 → n % 11 ≠ 0 → A = acc m c k h)
    ∧ ∀ s : Fin cfg0.N, s.val < n → n ≤ s.val + 11 → slot C s.val = tail m c s

/-- The accumulator at a row block's first tile. -/
theorem acc_first (n : ℕ) (h : n < cfg0.N) (h0 : n % 11 = 0) :
    acc m c n h = k0_pay2 (act m c ⟨n, h⟩) (iblk m c 6 ⟨n, h⟩) := by
  cases n with
  | zero => rfl
  | succ n => rw [acc, if_pos h0]

/-- The accumulator at a later tile. -/
theorem acc_later (n : ℕ) (h : n + 1 < cfg0.N) (h0 : (n + 1) % 11 ≠ 0) :
    acc m c (n + 1) h = k0_pay3 (act m c ⟨n + 1, h⟩) (iblk m c 6 ⟨n + 1, h⟩) (acc m c n (Nat.lt_of_succ_lt h)) := by
  rw [acc, if_neg h0]

/-- The carried rows a point loads are those of the row block before. -/
theorem prev_eq (t : Fin cfg0.N) (A : Vec F S512x2048 .f32) (C : Vec F S11x8x512 .f32) (hI : Inv m c t.val A C) :
    prevOf (grid0.coords t) C = prev m c t := by
  rw [prevOf, prev]
  by_cases h : t.val / 11 % 16 = 0
  · rw [if_pos h, if_pos ((fresh_iff t).2 h)]
  · rw [if_neg h, if_neg (fun e => h ((fresh_iff t).1 e))]
    have h11 : 11 ≤ t.val := by
      by_contra hlt
      exact h (by rw [Nat.div_eq_of_lt (by omega)])
    rw [← hI.2 ⟨t.val - 11, Nat.lt_of_le_of_lt (Nat.sub_le _ _) t.isLt⟩ (by show t.val - 11 < t.val; omega) (by show t.val ≤ t.val - 11 + 11; omega)]
    refine window_congr C ?_ _ _
    rw [off_eq]
    exact congrArg (fun x => (![x, 0, 0] : Fin 3 → ℕ)) (show t.val % 11 = (t.val - 11) % 11 by omega)

/-- The accumulator after a point is the recursion's. -/
theorem acc_eq (t : Fin cfg0.N) (A : Vec F S512x2048 .f32) (C : Vec F S11x8x512 .f32) (hI : Inv m c t.val A C) :
    accOf (grid0.coords t) (tile (iblk m c 0 t) (iblk m c 2 t) (iblk m c 3 t) (iblk m c 4 t) (iblk m c 5 t) (prevOf (grid0.coords t) C))
      (iblk m c 6 t) A = acc m c t.val t.isLt := by
  rw [prev_eq m c t A C hI, accOf]
  by_cases h : t.val % 11 = 0
  · rw [if_pos ((first_iff t).2 h), acc_first m c t.val t.isLt h]; rfl
  · rw [if_neg (fun e => h ((first_iff t).1 e))]
    obtain ⟨n, hn⟩ := t
    cases n with
    | zero => exact absurd rfl h
    | succ n => rw [acc_later m c n hn h, hI.1 n (Nat.lt_of_succ_lt hn) rfl h]; rfl

/-- The invariant carries over a point. -/
theorem inv_step (t : Fin cfg0.N) (A : Vec F S512x2048 .f32) (C : Vec F S11x8x512 .f32) (hI : Inv m c t.val A C) :
    Inv m c (t.val + 1) (acc m c t.val t.isLt) (VecWindow.put C (k0_off2 (grid0.coords t)) S1x8x512.size (tail m c t)) := by
  refine ⟨fun k hk e _ => ?_, fun s hs hs' => ?_⟩
  · obtain rfl : t.val = k := by omega
    rfl
  · rw [off_eq]
    by_cases e : s = t
    · subst e; exact slot_put_same _ _ _
    · have hne : s.val ≠ t.val := fun h => e (Fin.ext h)
      rw [slot_put_other _ _ _ _ (by omega)]
      exact hI.2 s (by omega) (by omega)

end Cert.Kernel2Ideal.Ffn
-- ==== Proof.FfnPay.lean ====
module

public import proofs.«01_k».proof.Proof.FfnInv
public import Idealize.ShloMosaic.Lib.Pointwise

@[expose] public section

set_option maxRecDepth 16384

noncomputable section

namespace Cert.Kernel2Ideal.Ffn
open Idealize.ShloMosaic Idealize.SL.Sem Cert.Kernel2Ideal Cert.Kernel2Ideal.Gen
open Idealize.ShloMosaic.Pointwise

/-- The sum of `n` products. -/
def dotN {n : ℕ} (f g : Fin n → EReal) : EReal := ∑ r : Fin n, f r * g r

/-- The activation of one entry: the convolved gate times its logistic, times the up value. -/
def silu (v u : EReal) : EReal := Ideal.div v (1 + Ideal.exp (0 - v)) * u

/-- The three-tap convolution of one entry. -/
def conv3 (b w0 w1 w2 p2 p1 p0 : EReal) : EReal := b + w0 * p2 + w1 * p1 + w2 * p0

/-- The normalized row entry added to the residual. -/
def resid (x y ms g : EReal) : EReal :=
  x + y * Ideal.rsqrt (Ideal.div ms (Ideal.ofBits .f32 0x45000000#32) + Ideal.ofBits .f32 0x358637BD#32) * g

/-- A block of the gate: rows of the input times columns of the gate weights. -/
theorem gate_apply (x0 : Vec Ideal S512x2048 .bf16) (x2 : Vec Ideal S2048x512 .bf16) (a k : Fin 512) :
    (k0_pay6 (F := Ideal) x0 x2 (ix2 a k) : EReal) = dotN (fun d : Fin 2048 => x0 (ix2 a d)) (fun d => x2 (ix2 d k)) := by
  pointwise [k0_pay6, k0_pay5]
  rfl

/-- A block of the up projection: rows of the input times columns of the up weights. -/
theorem up_apply (x0 : Vec Ideal S512x2048 .bf16) (x3 : Vec Ideal S2048x512 .bf16) (a k : Fin 512) :
    (k0_pay7 (F := Ideal) x0 x3 (ix2 a k) : EReal) = dotN (fun d : Fin 2048 => x0 (ix2 a d)) (fun d => x3 (ix2 d k)) := by
  pointwise [k0_pay7, k0_pay5]
  rfl

/-- The rows kept for the next block. -/
theorem tail_apply (x0 : Vec Ideal S512x2048 .bf16) (x2 : Vec Ideal S2048x512 .bf16) (a : Fin 8) (k : Fin 512) :
    (k0_pay10 (F := Ideal) x0 x2 (ix3 0 a k) : EReal) = k0_pay6 (F := Ideal) x0 x2 (ix2 ⟨504 + a.val, by omega⟩ k) := by
  pointwise [k0_pay10]

/-- The last two rows of a block, as written out. -/
theorem last_apply (x0 : Vec Ideal S512x2048 .bf16) (x2 : Vec Ideal S2048x512 .bf16) (a : Fin 2) (k : Fin 512) :
    (k0_pay11 (F := Ideal) x0 x2 (ix3 0 a k) : EReal) = k0_pay6 (F := Ideal) x0 x2 (ix2 ⟨510 + a.val, by omega⟩ k) := by
  pointwise [k0_pay11]

/-- The rows kept before the first block. -/
theorem none_apply (a : Fin 8) (k : Fin 512) : (k0_pay8 (F := Ideal) (ix3 0 a k) : EReal) = 0 := by
  pointwise [k0_pay8]

/-- The kept rows, read as a block. -/
theorem kept_apply (p : Vec Ideal S1x8x512 .f32) (a : Fin 8) (k : Fin 512) : (k0_pay9 (F := Ideal) p (ix2 a k) : EReal) = p (ix3 0 a k) := by
  pointwise [k0_pay9]

/-- The row one above row `a`, where the row above the block's first comes from the kept rows. -/
def back1 (g : Fin 512 → EReal) (p : Fin 8 → EReal) (a : Fin 512) : EReal :=
  if a.val = 0 then p 7 else g ⟨a.val - 1, by omega⟩

/-- The row two above row `a`, where the rows above the block's first come from the kept rows. -/
def back2 (g : Fin 512 → EReal) (p : Fin 8 → EReal) (a : Fin 512) : EReal :=
  if a.val = 0 then p 6 else if a.val = 1 then p 7 else g ⟨a.val - 2, by omega⟩

/-- Choosing by whether a row number is `k`. -/
theorem select_eq (a : Fin 512) (k : Fin 512) (x y : EReal) :
    (Scalar.select (IntOp.cmpi CmpIPredicate.eq (BitVec.ofNat 32 a.val) (BitVec.ofNat 32 k.val)) x y : EReal) = if a.val = k.val then x else y := by
  have h : (BitVec.ofNat 32 a.val = BitVec.ofNat 32 k.val) ↔ a.val = k.val := by
    rw [← BitVec.toNat_inj, BitVec.toNat_ofNat, BitVec.toNat_ofNat, Nat.mod_eq_of_lt (by omega), Nat.mod_eq_of_lt (by omega)]
  by_cases e : a.val = k.val
  · simp [Scalar.select, IntOp.cmpi, h, e]
  · have h' : (BitVec.ofNat 32 a.val == BitVec.ofNat 32 k.val) = false := beq_eq_false_iff_ne.2 (fun q => e (h.1 q))
    rw [if_neg e]
    simp only [Scalar.select, IntOp.cmpi, h']
    rfl

/-- A block of activations. -/
theorem act_apply (g u : FVec Ideal S512x512 .f32) (p : FVec Ideal S8x512 .f32) (x4 : Vec Ideal S3x512 .f32) (x5 : Vec Ideal S1x512 .f32) (a k : Fin 512) :
    (k0_pay12 (F := Ideal) g u p x4 x5 (ix2 a k) : EReal)
      = silu (conv3 (x5 (ix2 0 k)) (x4 (ix2 0 k)) (x4 (ix2 1 k)) (x4 (ix2 2 k))
          (back2 (fun a => g (ix2 a k)) (fun a => p (ix2 a k)) a) (back1 (fun a => g (ix2 a k)) (fun a => p (ix2 a k)) a) (g (ix2 a k))) (u (ix2 a k)) := by
  pointwise [k0_pay12]
  have h0 : ∀ x y : EReal, Scalar.select (IntOp.cmpi CmpIPredicate.eq (BitVec.ofNat 32 a.val) 0#32) x y = if a.val = 0 then x else y := fun x y => select_eq a 0 x y
  have h1 : ∀ x y : EReal, Scalar.select (IntOp.cmpi CmpIPredicate.eq (BitVec.ofNat 32 a.val) 1#32) x y = if a.val = 1 then x else y := fun x y => select_eq a 1 x y
  have e1 : (Scalar.select (IntOp.cmpi CmpIPredicate.eq (BitVec.ofNat 32 ↑a) 0#32) (p (ix2 7 k)) (g (ix2 ⟨(a.val + 512 - 1) % 512, by omega⟩ k)) : EReal)
      = back1 (fun a => g (ix2 a k)) (fun a => p (ix2 a k)) a := by
    refine (h0 _ _).trans ?_
    unfold back1
    by_cases e : a.val = 0
    · rw [if_pos e, if_pos e]
    · rw [if_neg e, if_neg e]
      exact congrArg (fun b => g (ix2 b k)) (Fin.ext (by show (a.val + 512 - 1) % 512 = a.val - 1; omega))
  have e2 : (Scalar.select (IntOp.cmpi CmpIPredicate.eq (BitVec.ofNat 32 ↑a) 0#32) (p (ix2 6 k))
        (Scalar.select (IntOp.cmpi CmpIPredicate.eq (BitVec.ofNat 32 ↑a) 1#32) (p (ix2 7 k)) (g (ix2 ⟨(a.val + 512 - 2) % 512, by omega⟩ k))) : EReal)
      = back2 (fun a => g (ix2 a k)) (fun a => p (ix2 a k)) a := by
    refine (h0 _ _).trans ?_
    unfold back2
    by_cases e : a.val = 0
    · rw [if_pos e, if_pos e]
    · rw [if_neg e, if_neg e]
      refine (h1 _ _).trans ?_
      by_cases e' : a.val = 1
      · rw [if_pos e', if_pos e']
      · rw [if_neg e', if_neg e']
        exact congrArg (fun b => g (ix2 b k)) (Fin.ext (by show (a.val + 512 - 2) % 512 = a.val - 2; omega))
  rw [← e1, ← e2]
  rfl

/-- The share of one tile of activations in the output block. -/
theorem down_apply (v : FVec Ideal S512x512 .bf16) (x6 : Vec Ideal S512x2048 .bf16) (a : Fin 512) (n : Fin 2048) :
    (k0_pay2 (F := Ideal) v x6 (ix2 a n) : EReal) = dotN (fun k : Fin 512 => v (ix2 a k)) (fun k => x6 (ix2 k n)) := by
  pointwise [k0_pay2, k0_pay1]
  rfl

/-- A later tile's share is added to what the earlier tiles left. -/
theorem down_add_apply (v : FVec Ideal S512x512 .bf16) (x6 : Vec Ideal S512x2048 .bf16) (A : Vec Ideal S512x2048 .f32) (a : Fin 512) (n : Fin 2048) :
    (k0_pay3 (F := Ideal) v x6 A (ix2 a n) : EReal) = (A (ix2 a n) : EReal) + dotN (fun k : Fin 512 => v (ix2 a k)) (fun k => x6 (ix2 k n)) := by
  pointwise [k0_pay3, k0_pay1]
  rfl

/-- The output block: the residual plus the normalized rows. -/
theorem out_apply (x : Vec Ideal S512x2048 .f32) (A : Vec Ideal S512x2048 .f32) (g : Vec Ideal S1x2048 .f32) (a : Fin 512) (n : Fin 2048) :
    (k0_pay4 (F := Ideal) x A g (ix2 a n) : EReal)
      = resid (x (ix2 a n)) (A (ix2 a n)) (dotN (fun d : Fin 2048 => A (ix2 a d)) (fun d => A (ix2 a d))) (g (ix2 0 n)) := by
  pointwise [k0_pay4]
  rfl

end Cert.Kernel2Ideal.Ffn
-- ==== Proof.FfnBody.lean ====
module

public import proofs.«01_k».proof.Proof.FfnInv

@[expose] public section

set_option maxRecDepth 16384

noncomputable section

namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The accumulator's buffer. -/
abbrev accM : Memref sig .tc .vmem S512x2048 .f32 := Memref.whole cc0_scratch0
/-- The carried rows' buffer. -/
abbrev carM : Memref sig .tc .vmem S11x8x512 .f32 := Memref.whole cc0_scratch1

/-- The region's invariant with its two scratch buffers as memrefs. -/
theorem held_eq : (Pipeline.ΦA spec0 c : sProp 𝕄)
    = iprop(((∃ f, owns (c : Thread nD τ) accM fullShare f) ∗ (∃ f, owns (c : Thread nD τ) carM fullShare f)) ∗ ∃ r, prngReg c r) := by
  unfold Pipeline.ΦA; rw [scopedRest0_eq]; simp only [accM, carM, owns_whole]; try rfl

/-- What holds before point `n`: both scratch buffers at contents the invariant allows. -/
def Phi (n : ℕ) : sProp 𝕄 :=
  iprop(∃ A C, ⌜Inv m c n A C⌝ ∗ owns (c : Thread nD τ) accM fullShare A ∗ owns (c : Thread nD τ) carM fullShare C ∗ ∃ r, prngReg c r)

/-- The pipeline's proof data: each input's block in place, the outputs at what the points leave. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rows m c t
    | ⟨9, _⟩ => k0_pay11 (iblk m c 0 t) (iblk m c 2 t)
  Φ t := Phi m c t.val
  q w := Pipeline.shareOf spec0 w
  owed _ := 0

/-- What the body leaves in window 0. -/
theorem after_0 (t : Fin cfg0.N) : (dat m c).after 0 t = iblk m c 0 t := by dsimp only [dat]
/-- What the body leaves in window 1. -/
theorem after_1 (t : Fin cfg0.N) : (dat m c).after 1 t = iblk m c 1 t := by dsimp only [dat]
/-- What the body leaves in window 2. -/
theorem after_2 (t : Fin cfg0.N) : (dat m c).after 2 t = iblk m c 2 t := by dsimp only [dat]
/-- What the body leaves in window 3. -/
theorem after_3 (t : Fin cfg0.N) : (dat m c).after 3 t = iblk m c 3 t := by dsimp only [dat]
/-- What the body leaves in window 4. -/
theorem after_4 (t : Fin cfg0.N) : (dat m c).after 4 t = iblk m c 4 t := by dsimp only [dat]
/-- What the body leaves in window 5. -/
theorem after_5 (t : Fin cfg0.N) : (dat m c).after 5 t = iblk m c 5 t := by dsimp only [dat]
/-- What the body leaves in window 6. -/
theorem after_6 (t : Fin cfg0.N) : (dat m c).after 6 t = iblk m c 6 t := by dsimp only [dat]
/-- What the body leaves in window 7. -/
theorem after_7 (t : Fin cfg0.N) : (dat m c).after 7 t = iblk m c 7 t := by dsimp only [dat]
/-- What the body leaves in window 8. -/
theorem after_8 (t : Fin cfg0.N) : (dat m c).after 8 t = rows m c t := by dsimp only [dat]
/-- What the body leaves in window 9. -/
theorem after_9 (t : Fin cfg0.N) : (dat m c).after 9 t = k0_pay11 (iblk m c 0 t) (iblk m c 2 t) := by dsimp only [dat]
/-- The arrays are those that the call finds. -/
theorem A_eq (w : Fin cfg0.W) : (dat m c).A w = V m c (Pipeline.arrRef spec0 w) := by dsimp only [dat]

/-- What the body finds in window 0. -/
theorem before_0 (t : Fin cfg0.N) (d) : (dat m c).before 0 t d = iblk m c 0 t :=
  before0_0_of m (dat m c) (A_eq m c 0) (after_0 m c) t d
/-- What the body finds in window 1. -/
theorem before_1 (t : Fin cfg0.N) (d) : (dat m c).before 1 t d = iblk m c 1 t :=
  before0_1_of m (dat m c) (A_eq m c 1) (after_1 m c) t d
/-- What the body finds in window 2. -/
theorem before_2 (t : Fin cfg0.N) (d) : (dat m c).before 2 t d = iblk m c 2 t :=
  before0_2_of m (dat m c) (A_eq m c 2) (after_2 m c) t d
/-- What the body finds in window 3. -/
theorem before_3 (t : Fin cfg0.N) (d) : (dat m c).before 3 t d = iblk m c 3 t :=
  before0_3_of m (dat m c) (A_eq m c 3) (after_3 m c) t d
/-- What the body finds in window 4. -/
theorem before_4 (t : Fin cfg0.N) (d) : (dat m c).before 4 t d = iblk m c 4 t :=
  before0_4_of m (dat m c) (A_eq m c 4) (after_4 m c) t d
/-- What the body finds in window 5. -/
theorem before_5 (t : Fin cfg0.N) (d) : (dat m c).before 5 t d = iblk m c 5 t :=
  before0_5_of m (dat m c) (A_eq m c 5) (after_5 m c) t d
/-- What the body finds in window 6. -/
theorem before_6 (t : Fin cfg0.N) (d) : (dat m c).before 6 t d = iblk m c 6 t :=
  before0_6_of m (dat m c) (A_eq m c 6) (after_6 m c) t d
/-- What the body finds in window 7. -/
theorem before_7 (t : Fin cfg0.N) (d) : (dat m c).before 7 t d = iblk m c 7 t :=
  before0_7_of m (dat m c) (A_eq m c 7) (after_7 m c) t d

/-- What the body is called with at point `t`. -/
def pre (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d))
    ∗ (∃ d, owns (c : Thread nD τ) (win0_7.stage (cfg0.slots t 7)) fullShare ((dat m c).before 7 t d))
    ∗ (∃ d, owns (c : Thread nD τ) (win0_8.stage (cfg0.slots t 8)) fullShare ((dat m c).before 8 t d))
    ∗ (∃ d, owns (c : Thread nD τ) (win0_9.stage (cfg0.slots t 9)) fullShare ((dat m c).before 9 t d)))

/-- What it returns: the output rows as they were except at the last tile. -/
def post (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ owns (c : Thread nD τ) (win0_6.stage (cfg0.slots t 6)) fullShare ((dat m c).after 6 t)
    ∗ owns (c : Thread nD τ) (win0_7.stage (cfg0.slots t 7)) fullShare ((dat m c).after 7 t)
    ∗ (match cfg0.idle 8 (grid0.coords t) with
        | true =>
          match (cfg0.win 8).flush t with
          | false => iprop(∃ d, owns (c : Thread nD τ) (win0_8.stage (cfg0.slots t 8)) fullShare ((dat m c).before 8 t d))
          | true => owns (c : Thread nD τ) (win0_8.stage (cfg0.slots t 8)) fullShare ((dat m c).after 8 t)
        | false => owns (c : Thread nD τ) (win0_8.stage (cfg0.slots t 8)) fullShare ((dat m c).after 8 t))
    ∗ owns (c : Thread nD τ) (win0_9.stage (cfg0.slots t 9)) fullShare ((dat m c).after 9 t))

/-- The output rows' buffer after a point is what the pipeline asks of it there. -/
theorem out_ok (t : Fin cfg0.N) (o : Vec F S512x2048 .f32) (d) (ho : o = (dat m c).before 8 t d) :
    (owns (c : Thread nD τ) (win0_8.stage (cfg0.slots t 8)) fullShare (outOf (grid0.coords t) (iblk m c 1 t) (acc m c t.val t.isLt) o (iblk m c 7 t)) : sProp 𝕄)
    ⊢ (match cfg0.idle 8 (grid0.coords t) with
        | true =>
          match (cfg0.win 8).flush t with
          | false => iprop(∃ d, owns (c : Thread nD τ) (win0_8.stage (cfg0.slots t 8)) fullShare ((dat m c).before 8 t d))
          | true => owns (c : Thread nD τ) (win0_8.stage (cfg0.slots t 8)) fullShare ((dat m c).after 8 t)
        | false => owns (c : Thread nD τ) (win0_8.stage (cfg0.slots t 8)) fullShare ((dat m c).after 8 t)) := by
  by_cases h : k0_cond4 (grid0.coords t) = 1#1
  · have hi : cfg0.idle 8 (grid0.coords t) = false := by
      show (!(k0_cond4 (grid0.coords t) == 1#1)) = false
      rw [h]; rfl
    rw [hi, after_8, outOf, if_pos h]
    exact .rfl
  · have hi : cfg0.idle 8 (grid0.coords t) = true := by
      show (!(k0_cond4 (grid0.coords t) == 1#1)) = true
      rw [beq_eq_false_iff_ne.mpr h]; rfl
    have hf : (cfg0.win 8).flush t = false := by
      rw [← Bool.not_eq_true]
      exact fun e => h ((last_iff t).2 ((flush0_8 t).1 e))
    rw [hi, hf, outOf, if_neg h]
    subst ho
    iintro H
    iexists d
    iexact H

set_option maxHeartbeats 1000000 in
/-- The body at any point. -/
theorem sound (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dat m c).owesAt () t.succ = (dat m c).owesAt () t.castSucc from rfl,
    after_0, after_1, after_2, after_3, after_4, after_5, after_6, after_7, after_9,
    show (dat m c).Φ t.castSucc = Phi m c t.val from rfl, show (dat m c).Φ t.succ = Phi m c (t.val + 1) from rfl]
  unfold Phi
  iintro ⟨⟨%A, %C, %hI, HA, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have ha := acc_eq m c t A C hI
  iapply (run c (grid0.coords t) _ _ _ _ _ _ _ _ _ _ _ _ _ _ _ _ _ _ _ _ _ _ _ _
    (iblk m c 0 t) (iblk m c 0 t) (iblk m c 1 t) (iblk m c 1 t) (iblk m c 2 t) (iblk m c 2 t) (iblk m c 3 t) (iblk m c 3 t) (iblk m c 4 t) (iblk m c 4 t) (iblk m c 5 t) (iblk m c 5 t) (iblk m c 6 t) (iblk m c 6 t) (iblk m c 7 t) (iblk m c 7 t)
    ((dat m c).before 8 t d8) A A C _ ((later_iff t).trans (not_congr (first_iff t)).symm)
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _))
    ((View.readAt_full _ _ _).trans (Memref.IsWhole.read_unread _ _)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HA]; · iexact HA
  isplitl [HC]; · iexact HC
  rw [ha]
  iintro ⟨H0, H1, H2, H3, H4, H5, H6, H7, H8, H9, HA, HC⟩
  isplitl [HA HC Hg]
  · iexists _, _
    isplitr
    · ipureintro; exact inv_step m c t A C hI
    isplitl [HA]; · iexact HA
    isplitl [HC]; · iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (out_ok m c t _ d8 rfl); iexact H8
  iexact H9

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The pipeline's body obligation. -/
theorem obligation : BodyObligation (dat (F := F) m c) (defs₀ (F := F)) Variants.none () Set.univ := fun t => by
  rw [bigSep_W0, bigSep_W0, row]
  exact triple_restated (sound m c t) rfl .rfl fun _ => .rfl

end Cert.Kernel2Ideal.Ffn
-- ==== Proof.FfnFrame.lean ====
module

public import proofs.«01_k».proof.Proof.FfnBody

@[expose] public section

set_option maxRecDepth 16384

noncomputable section

namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one pipeline's proof data. -/
def dats (p : Fin 1) (c : Dev nD) : Dat τ (Elt F) Unit ℕ (UR sig nD τ) ℕ (cfgs p) c := dat m c

/-- At the start the scratch buffers may hold anything. -/
theorem enter (c : Dev nD) : (Pipeline.ΦA spec0 c : sProp 𝕄) ⊢ (dat m c).Φ 0 := by
  rw [held_eq, show (dat m c).Φ 0 = Phi m c 0 from rfl]
  unfold Phi
  iintro ⟨⟨⟨%A, HA⟩, ⟨%C, HC⟩⟩, Hg⟩
  iexists A, C
  isplitr
  · ipureintro
    exact ⟨fun k h e => absurd e (by omega), fun s h => absurd h (by omega)⟩
  isplitl [HA]; · iexact HA
  isplitl [HC]; · iexact HC
  iexact Hg

/-- At the end what they hold is forgotten. -/
theorem leave (c : Dev nD) : (dat m c).Φ (Fin.last cfg0.N) ⊢ (Pipeline.ΦA spec0 c : sProp 𝕄) := by
  rw [held_eq, show (dat m c).Φ (Fin.last cfg0.N) = Phi m c (Fin.last cfg0.N).val from rfl]
  unfold Phi
  iintro ⟨%A, %C, -, HA, HC, Hg⟩
  isplitl [HA HC]
  · isplitl [HA]
    · iexists A; iexact HA
    iexists C; iexact HC
  iexact Hg

/-- The kernel's run: every window's array at what the points leave, every other array as the host operations leave it,
    every counter at zero. -/
theorem ran : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track_shared cfgs (dats m) 0 launch₀0 defs₀ Variants.none m ρ main
    (fun c => (obligation m c).loose) (fun c w _ => rfl) (fun c t => rfl) (V0 m) [hostOps1] sfx_sub sfx_fresh sfx_keeps
    (hmain m Variants.none) (fun c w => rfl) (enter m) (leave m) _ (fun r h => h)

/-- A run that leaves the arrays so leaves the arguments unchanged. -/
theorem args_kept (r : PUnit × MemSt nD τ sig (Elt F)) (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans (V_main_arg3 m c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩

/-- The kernel ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => args_kept m r h.1 c, h.2⟩) (ran m ρ)

/-- The kernel ends with its two results as the host operations after the call leave them, and its arguments unchanged. -/
theorem run_results : θ_run defs (onTc (τ := τ) (main (F := F))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).2 main_v8 (Pipeline.mem_restRefs_of main_v8 (by decide) (by decide)),
    (h.1 c).2 main_v9 (Pipeline.mem_restRefs_of main_v9 (by decide) (by decide)), args_kept m r h.1 c⟩) (ran m ρ)

end Cert.Kernel2Ideal.Ffn
-- ==== Proof.FfnArr.lean ====
module

public import proofs.«01_k».proof.Proof.FfnPay
public import proofs.«01_k».proof.Proof.FfnFrame

@[expose] public section

set_option maxRecDepth 16384

noncomputable section

namespace Cert.Kernel2Ideal.Ffn
open Idealize.ShloMosaic Idealize.SL.Sem Cert.Kernel2Ideal Cert.Kernel2Ideal.Gen
open Idealize.ShloMosaic.Pointwise

/-- Which block of its array window 0 holds at a point. -/
theorem idx0 : ∀ t : Fin cfg0.N, win0_0.index t = ![t.val / 11, 0] := (by decide +kernel : ∀ t : Fin grid0.N, _)
/-- Which block of its array window 1 holds at a point. -/
theorem idx1 : ∀ t : Fin cfg0.N, win0_1.index t = ![t.val / 11, 0] := (by decide +kernel : ∀ t : Fin grid0.N, _)
/-- Which block of its array window 2 holds at a point. -/
theorem idx2 : ∀ t : Fin cfg0.N, win0_2.index t = ![0, t.val % 11] := (by decide +kernel : ∀ t : Fin grid0.N, _)
/-- Which block of its array window 3 holds at a point. -/
theorem idx3 : ∀ t : Fin cfg0.N, win0_3.index t = ![0, 11 + t.val % 11] := (by decide +kernel : ∀ t : Fin grid0.N, _)
/-- Which block of its array window 4 holds at a point. -/
theorem idx4 : ∀ t : Fin cfg0.N, win0_4.index t = ![0, t.val % 11] := (by decide +kernel : ∀ t : Fin grid0.N, _)
/-- Which block of its array window 5 holds at a point. -/
theorem idx5 : ∀ t : Fin cfg0.N, win0_5.index t = ![0, t.val % 11] := (by decide +kernel : ∀ t : Fin grid0.N, _)
/-- Which block of its array window 6 holds at a point. -/
theorem idx6 : ∀ t : Fin cfg0.N, win0_6.index t = ![t.val % 11, 0] := (by decide +kernel : ∀ t : Fin grid0.N, _)
/-- Which block of its array window 7 holds at a point. -/
theorem idx7 : ∀ t : Fin cfg0.N, win0_7.index t = ![0, 0] := (by decide +kernel : ∀ t : Fin grid0.N, _)
/-- Which block of its array window 8 holds at a point. -/
theorem idx8 : ∀ t : Fin cfg0.N, win0_8.index t = ![t.val / 11, 0] := (by decide +kernel : ∀ t : Fin grid0.N, _)
/-- Which block of its array window 9 holds at a point. -/
theorem idx9 : ∀ t : Fin cfg0.N, win0_9.index t = ![t.val / 11, 0, t.val % 11] := (by decide +kernel : ∀ t : Fin grid0.N, _)

/-- The layer's operands, with the prompts' rows numbered together. -/
structure Data where
  h : Fin 32768 → Fin 2048 → EReal
  x : Fin 32768 → Fin 2048 → EReal
  win : Fin 2048 → Fin 11264 → EReal
  cw : Fin 3 → Fin 5632 → EReal
  cb : Fin 5632 → EReal
  wd : Fin 5632 → Fin 2048 → EReal
  g : Fin 2048 → EReal

namespace Data
variable (D : Data)

/-- The gate projection. -/
def gate (n : Fin 32768) (f : Fin 5632) : EReal := dotN (D.h n) (fun d => D.win d ⟨f.val, by omega⟩)
/-- The up projection. -/
def up (n : Fin 32768) (f : Fin 5632) : EReal := dotN (D.h n) (fun d => D.win d ⟨5632 + f.val, by omega⟩)
/-- The gate `j` rows before, nothing before the prompt's start. -/
def gateBack (j : ℕ) (n : Fin 32768) (f : Fin 5632) : EReal := if n.val % 8192 < j then 0 else D.gate ⟨n.val - j, by omega⟩ f
/-- The activation. -/
def act (n : Fin 32768) (f : Fin 5632) : EReal :=
  silu (conv3 (D.cb f) (D.cw 0 f) (D.cw 1 f) (D.cw 2 f) (D.gateBack 2 n f) (D.gateBack 1 n f) (D.gate n f)) (D.up n f)
/-- One term of the down projection, by number. -/
def term (n : Fin 32768) (d : Fin 2048) (f : ℕ) : EReal := if h : f < 5632 then D.act n ⟨f, h⟩ * D.wd ⟨f, h⟩ d else 0
/-- The down projection. -/
def down (n : Fin 32768) (d : Fin 2048) : EReal := dotN (D.act n) (fun f => D.wd f d)
/-- The layer's output. -/
def out (n : Fin 32768) (d : Fin 2048) : EReal := resid (D.x n d) (D.down n d) (dotN (D.down n) (D.down n)) (D.g d)

/-- All terms of the down projection. -/
theorem sum_term (n : Fin 32768) (d : Fin 2048) : ∑ f ∈ Finset.range 5632, D.term n d f = D.down n d := by
  rw [Finset.sum_range]
  exact Finset.sum_congr rfl fun (f : Fin 5632) _ => dif_pos (show f.val < 5632 from f.isLt)

end Data

variable (m : (ℓ : Loc nD τ sig) → Buf (Elt Ideal) ℓ) (c : Dev nD)

/-- The arrays that the call reads hold the operands. -/
structure Reads (D : Data) : Prop where
  h : ∀ n d, (V m c main_v1 (ix2 n d) : EReal) = D.h n d
  x : ∀ n d, (V m c main_v2 (ix2 n d) : EReal) = D.x n d
  win : ∀ d f, (V m c main_v3 (ix2 d f) : EReal) = D.win d f
  cw : ∀ j f, (V m c main_arg3 (ix2 j f) : EReal) = D.cw j f
  cb : ∀ f, (V m c main_v4 (ix2 0 f) : EReal) = D.cb f
  wd : ∀ f d, (V m c main_v5 (ix2 f d) : EReal) = D.wd f d
  g : ∀ d, (V m c main_v6 (ix2 0 d) : EReal) = D.g d

/-- There are 704 points. -/
theorem pt_lt (t : Fin cfg0.N) : t.val < 704 := t.isLt

/-- Row `a` of point `t`'s block of rows. -/
def brow (t : Fin cfg0.N) (a : Fin 512) : Fin 32768 := ⟨512 * (t.val / 11) + a.val, by have := pt_lt t; omega⟩
/-- Column `k` of point `t`'s tile. -/
def bcol (t : Fin cfg0.N) (k : Fin 512) : Fin 5632 := ⟨512 * (t.val % 11) + k.val, by omega⟩

section
variable {m c} {D : Data} (R : Reads m c D) (t : Fin cfg0.N)
include R

/-- The block of window 0, element by element. -/
theorem blk0 (a : Fin 512) (d : Fin 2048) : (iblk m c 0 t (ix2 a d) : EReal) = D.h (brow t a) d := by
  rw [← R.h]
  blk_simp [iblk]
  refine congrArg (V m c main_v1) ?_
  blk_ext [idx0, brow]
/-- The block of window 1, element by element. -/
theorem blk1 (a : Fin 512) (d : Fin 2048) : (iblk m c 1 t (ix2 a d) : EReal) = D.x (brow t a) d := by
  rw [← R.x]
  blk_simp [iblk]
  refine congrArg (V m c main_v2) ?_
  blk_ext [idx1, brow]
/-- The block of window 2, element by element. -/
theorem blk2 (d : Fin 2048) (k : Fin 512) : (iblk m c 2 t (ix2 d k) : EReal) = D.win d ⟨(bcol t k).val, by omega⟩ := by
  rw [← R.win]
  blk_simp [iblk]
  refine congrArg (V m c main_v3) ?_
  blk_ext [idx2, bcol]
/-- The block of window 3, element by element. -/
theorem blk3 (d : Fin 2048) (k : Fin 512) : (iblk m c 3 t (ix2 d k) : EReal) = D.win d ⟨5632 + (bcol t k).val, by omega⟩ := by
  rw [← R.win]
  blk_simp [iblk]
  refine congrArg (V m c main_v3) ?_
  blk_ext [idx3, bcol]
/-- The block of window 4, element by element. -/
theorem blk4 (j : Fin 3) (k : Fin 512) : (iblk m c 4 t (ix2 j k) : EReal) = D.cw j (bcol t k) := by
  rw [← R.cw]
  blk_simp [iblk]
  refine congrArg (V m c main_arg3) ?_
  blk_ext [idx4, bcol]
/-- The block of window 5, element by element. -/
theorem blk5 (k : Fin 512) : (iblk m c 5 t (ix2 0 k) : EReal) = D.cb (bcol t k) := by
  rw [← R.cb]
  blk_simp [iblk]
  refine congrArg (V m c main_v4) ?_
  blk_ext [idx5, bcol]
/-- The block of window 6, element by element. -/
theorem blk6 (k : Fin 512) (d : Fin 2048) : (iblk m c 6 t (ix2 k d) : EReal) = D.wd (bcol t k) d := by
  rw [← R.wd]
  blk_simp [iblk]
  refine congrArg (V m c main_v5) ?_
  blk_ext [idx6, bcol]
/-- The block of window 7, element by element. -/
theorem blk7 (d : Fin 2048) : (iblk m c 7 t (ix2 0 d) : EReal) = D.g d := by
  rw [← R.g]
  blk_simp [iblk]
  refine congrArg (V m c main_v6) ?_
  blk_ext [idx7]

/-- Point `t`'s gate block. -/
theorem gate_blk (a k : Fin 512) :
    (k0_pay6 (F := Ideal) (iblk m c 0 t) (iblk m c 2 t) (ix2 a k) : EReal) = D.gate (brow t a) (bcol t k) :=
  (gate_apply _ _ a k).trans (congrArg₂ dotN (funext fun d => blk0 R t a d) (funext fun d => blk2 R t d k))

/-- Point `t`'s up block. -/
theorem up_blk (a k : Fin 512) :
    (k0_pay7 (F := Ideal) (iblk m c 0 t) (iblk m c 3 t) (ix2 a k) : EReal) = D.up (brow t a) (bcol t k) :=
  (up_apply _ _ a k).trans (congrArg₂ dotN (funext fun d => blk0 R t a d) (funext fun d => blk3 R t d k))

/-- The rows carried into point `t` are the last eight gate rows before its block. -/
theorem prev_blk (a : Fin 8) (k : Fin 512) :
    (k0_pay9 (F := Ideal) (prev m c t) (ix2 a k) : EReal)
      = if t.val / 11 % 16 = 0 then 0 else D.gate ⟨512 * (t.val / 11) + a.val - 8, by have := pt_lt t; omega⟩ (bcol t k) := by
  rw [kept_apply, prev]
  by_cases h : t.val / 11 % 16 = 0
  · rw [if_pos h, if_pos h, none_apply]
  · rw [if_neg h, if_neg h]
    refine (tail_apply _ _ a k).trans ((gate_blk R _ _ k).trans ?_)
    exact congrArg₂ D.gate (Fin.ext (by simp only [brow]; omega)) (Fin.ext (by simp only [bcol]; omega))

/-- The gate one row before. -/
theorem back1_blk (a k : Fin 512) :
    back1 (fun a => (k0_pay6 (F := Ideal) (iblk m c 0 t) (iblk m c 2 t) (ix2 a k) : EReal)) (fun a => k0_pay9 (F := Ideal) (prev m c t) (ix2 a k)) a
      = D.gateBack 1 (brow t a) (bcol t k) := by
  unfold back1 Data.gateBack
  by_cases h : a.val = 0
  · rw [if_pos h]
    refine (prev_blk R t 7 k).trans ?_
    by_cases h' : t.val / 11 % 16 = 0
    · rw [if_pos h', if_pos (by simp only [brow]; omega)]
    · rw [if_neg h', if_neg (by simp only [brow]; omega)]
      exact congrArg (fun n => D.gate n (bcol t k)) (Fin.ext (by simp only [brow]; show 512 * (t.val / 11) + 7 - 8 = _; omega))
  · rw [if_neg h, if_neg (by simp only [brow]; omega)]
    refine (gate_blk R t _ k).trans ?_
    exact congrArg (fun n => D.gate n (bcol t k)) (Fin.ext (by simp only [brow]; omega))

/-- The gate two rows before. -/
theorem back2_blk (a k : Fin 512) :
    back2 (fun a => (k0_pay6 (F := Ideal) (iblk m c 0 t) (iblk m c 2 t) (ix2 a k) : EReal)) (fun a => k0_pay9 (F := Ideal) (prev m c t) (ix2 a k)) a
      = D.gateBack 2 (brow t a) (bcol t k) := by
  unfold back2 Data.gateBack
  by_cases h : a.val = 0
  · rw [if_pos h]
    refine (prev_blk R t 6 k).trans ?_
    by_cases h' : t.val / 11 % 16 = 0
    · rw [if_pos h', if_pos (by simp only [brow]; omega)]
    · rw [if_neg h', if_neg (by simp only [brow]; omega)]
      exact congrArg (fun n => D.gate n (bcol t k)) (Fin.ext (by simp only [brow]; show 512 * (t.val / 11) + 6 - 8 = _; omega))
  · rw [if_neg h]
    by_cases h1 : a.val = 1
    · rw [if_pos h1]
      refine (prev_blk R t 7 k).trans ?_
      by_cases h' : t.val / 11 % 16 = 0
      · rw [if_pos h', if_pos (by simp only [brow]; omega)]
      · rw [if_neg h', if_neg (by simp only [brow]; omega)]
        exact congrArg (fun n => D.gate n (bcol t k)) (Fin.ext (by simp only [brow]; show 512 * (t.val / 11) + 7 - 8 = _; omega))
    · rw [if_neg h1, if_neg (by simp only [brow]; omega)]
      refine (gate_blk R t _ k).trans ?_
      exact congrArg (fun n => D.gate n (bcol t k)) (Fin.ext (by simp only [brow]; omega))

/-- Point `t`'s activations. -/
theorem act_blk (a k : Fin 512) : (act m c t (ix2 a k) : EReal) = D.act (brow t a) (bcol t k) := by
  refine (act_apply _ _ _ _ _ a k).trans ?_
  rw [back1_blk R t a k, back2_blk R t a k, gate_blk R t a k, up_blk R t a k, blk4 R t 0 k, blk4 R t 1 k, blk4 R t 2 k, blk5 R t k]
  rfl

/-- Point `t`'s share of the down projection. -/
theorem share_blk (a : Fin 512) (d : Fin 2048) :
    dotN (fun k : Fin 512 => (act m c t (ix2 a k) : EReal)) (fun k => iblk m c 6 t (ix2 k d))
      = ∑ k ∈ Finset.range 512, D.term (brow t a) d (512 * (t.val % 11) + k) := by
  rw [Finset.sum_range]
  refine Finset.sum_congr rfl fun k _ => ?_
  have hk : 512 * (t.val % 11) + k.val < 5632 := by omega
  unfold Data.term
  rw [dif_pos hk]
  exact congrArg₂ (α := EReal) (β := EReal) (· * ·) (act_blk R t a k) (blk6 R t k d)

/-- The accumulator after point `n` holds the terms of the tiles so far. -/
theorem acc_blk (n : ℕ) (h : n < cfg0.N) (a : Fin 512) (d : Fin 2048) :
    (acc m c n h (ix2 a d) : EReal) = ∑ f ∈ Finset.range (512 * (n % 11 + 1)), D.term (brow ⟨n, h⟩ a) d f := by
  have first : n % 11 = 0 → (acc m c n h (ix2 a d) : EReal) = ∑ f ∈ Finset.range (512 * (n % 11 + 1)), D.term (brow ⟨n, h⟩ a) d f := by
    intro h0
    rw [acc_first m c n h h0]
    refine (down_apply _ _ a d).trans ((share_blk R ⟨n, h⟩ a d).trans ?_)
    simp only [h0, Nat.mul_zero, Nat.zero_add, Nat.mul_one]
  induction n with
  | zero => exact first rfl
  | succ n ih =>
    by_cases h0 : (n + 1) % 11 = 0
    · exact first h0
    · rw [acc_later m c n h h0]
      refine (down_add_apply _ _ _ a d).trans ?_
      have e1 : (n + 1) % 11 = n % 11 + 1 := by omega
      have e2 : brow ⟨n + 1, h⟩ a = brow ⟨n, Nat.lt_of_succ_lt h⟩ a := Fin.ext (by simp only [brow]; omega)
      have hacc : (acc m c n (Nat.lt_of_succ_lt h) (ix2 a d) : EReal) = ∑ f ∈ Finset.range (512 * (n % 11 + 1)), D.term (brow ⟨n, Nat.lt_of_succ_lt h⟩ a) d f := by
        refine ih (Nat.lt_of_succ_lt h) fun h0 => ?_
        rw [acc_first m c n _ h0]
        refine (down_apply _ _ a d).trans ((share_blk R ⟨n, _⟩ a d).trans ?_)
        simp only [h0, Nat.mul_zero, Nat.zero_add, Nat.mul_one]
      refine (congrArg₂ (α := EReal) (β := EReal) (· + ·) hacc (share_blk R ⟨n + 1, h⟩ a d)).trans ?_
      simp only [e2, e1]
      rw [show 512 * (n % 11 + 1 + 1) = 512 * (n % 11 + 1) + 512 by omega, Finset.sum_range_add]

/-- The output block of a row block's last point. -/
theorem rows_blk (h : t.val % 11 = 10) (a : Fin 512) (d : Fin 2048) : (rows m c t (ix2 a d) : EReal) = D.out (brow t a) d := by
  have hacc : ∀ d, (acc m c t.val t.isLt (ix2 a d) : EReal) = D.down (brow t a) d := fun d => by
    rw [acc_blk R t.val t.isLt a d, h]
    exact D.sum_term _ d
  refine (out_apply _ _ _ a d).trans ?_
  rw [blk1 R t a d, blk7 R t d, hacc d, show (fun d => (acc m c t.val t.isLt (ix2 a d) : EReal)) = D.down (brow t a) from funext hacc]
  rfl

/-- The kept rows written by point `t`. -/
theorem last_blk (a : Fin 2) (k : Fin 512) :
    (k0_pay11 (F := Ideal) (iblk m c 0 t) (iblk m c 2 t) (ix3 0 a k) : EReal) = D.gate (brow t ⟨510 + a.val, by omega⟩) (bcol t k) :=
  (last_apply _ _ a k).trans (gate_blk R t _ k)

end

/-- The first array is written out at the last tile of a row block. -/
theorem flush_8 : ∀ t : Fin cfg0.N, (cfg0.win 8).flush t = true → t.val % 11 = 10 := (by decide +kernel : ∀ t : Fin grid0.N, _)

section
variable {m c} {D : Data} (R : Reads m c D)
include R

/-- The call's first array: the layer's output. -/
theorem out_array (n : Fin 32768) (d : Fin 2048) : ((dat m c).arrAt 8 cfg0.N (ix2 n d) : EReal) = D.out n d := by
  suffices h : ∀ i, ∀ n d, i = ix2 n d → ((dat m c).arrAt 8 cfg0.N i : EReal) = D.out n d from h _ n d rfl
  refine (dat m c).arrAt_forall_of_covers 8 (fun i x => ∀ n d, i = ix2 n d → (x : EReal) = D.out n d)
    (by decide +kernel) (fun t hf y => ?_)
  intro n d hi
  have h0 := congrArg Fin.val (congrFun hi 0)
  have h1 := congrArg Fin.val (congrFun hi 1)
  blk_simp [idx8] at h0 h1
  blk_simp
  rw [after_8]
  have hy : (y 0).val < 512 := (y 0).isLt
  obtain rfl : n = brow t ⟨(y 0).val, hy⟩ := Fin.ext (by simp only [brow]; omega)
  have hy2 : y = ix2 ⟨(y 0).val, hy⟩ d := funext fun x => match x with
    | 0 => rfl
    | 1 => Fin.ext (by show (y 1).val = d.val; omega)
  exact (congrArg (rows m c t) hy2).trans (rows_blk R t (flush_8 t hf) _ d)

/-- The call's second array: the last two gate rows of every row block. -/
theorem state_array (b : Fin 64) (a : Fin 2) (f : Fin 5632) :
    ((dat m c).arrAt 9 cfg0.N (ix3 b a f) : EReal) = D.gate ⟨512 * b.val + 510 + a.val, by omega⟩ f := by
  suffices h : ∀ i, ∀ b a f, i = ix3 b a f → ((dat m c).arrAt 9 cfg0.N i : EReal) = D.gate ⟨512 * b.val + 510 + a.val, by omega⟩ f from h _ b a f rfl
  refine (dat m c).arrAt_forall_of_covers 9
    (fun i x => ∀ (b : Fin 64) (a : Fin 2) (f : Fin 5632), i = ix3 b a f → (x : EReal) = D.gate ⟨512 * b.val + 510 + a.val, by omega⟩ f)
    (by decide +kernel) (fun t hf y => ?_)
  intro b a f hi
  have h0 := congrArg Fin.val (congrFun hi 0)
  have h1 := congrArg Fin.val (congrFun hi 1)
  have h2 := congrArg Fin.val (congrFun hi 2)
  blk_simp [idx9] at h0 h1 h2
  blk_simp
  rw [after_9]
  have hy0 : (y 0).val < 1 := (y 0).isLt
  have hy1 : (y 2).val < 512 := (y 2).isLt
  have hy2 : y = ix3 0 a ⟨(y 2).val, hy1⟩ := funext fun x => match x with
    | 0 => Fin.ext (by show (y 0).val = 0; omega)
    | 1 => Fin.ext (by show (y 1).val = a.val; omega)
    | 2 => rfl
  refine (congrArg (k0_pay11 (F := Ideal) (iblk m c 0 t) (iblk m c 2 t)) hy2).trans ((last_blk R t a _).trans ?_)
  exact congrArg₂ D.gate (Fin.ext (by simp only [brow]; omega)) (Fin.ext (by simp only [bcol]; omega))

end

end Cert.Kernel2Ideal.Ffn
-- ==== Proof.FfnHost.lean ====
module

public import proofs.«01_k».proof.Proof.FfnArr
public import Idealize.ShloMosaic.Lib.KernelVsHost

@[expose] public section

set_option maxRecDepth 16384

noncomputable section

namespace Cert.Kernel2Ideal.Ffn
open Idealize.ShloMosaic Idealize.SL.Sem Cert.Kernel2Ideal Cert.Kernel2Ideal.Gen
open Idealize.ShloMosaic.Pointwise

variable (m : (ℓ : Loc nD τ sig) → Buf (Elt Ideal) ℓ) (ρ : Dev nD → PrngReg) (c : Dev nD)

/-- The prompt that row `n` belongs to. -/
def pOf (n : Fin 32768) : Fin 4 := ⟨n.val / 8192, by omega⟩
/-- Row `n`'s place in its prompt. -/
def sOf (n : Fin 32768) : Fin 8192 := ⟨n.val % 8192, by omega⟩

/-- The operands as launched. -/
def args : Data where
  h n d := m (c.tc.loc main_arg0) (ix3 (pOf n) (sOf n) d)
  x n d := m (c.tc.loc main_arg1) (ix3 (pOf n) (sOf n) d)
  win d f := m (c.tc.loc main_arg2) (ix2 d f)
  cw j f := m (c.tc.loc main_arg3) (ix2 j f)
  cb f := m (c.tc.loc main_arg4) (ix1 f)
  wd f d := m (c.tc.loc main_arg5) (ix2 f d)
  g d := m (c.tc.loc main_arg6) (ix1 d)

/-- The host operations before the call hand the operands over. -/
theorem reads : Reads m c (args m c) where
  h n d := by
    unfold V V0
    simp only [List.flatten_cons, List.flatten_nil, List.append_nil]
    entry_read
    pointwise
    rfl
  x n d := by
    unfold V V0
    simp only [List.flatten_cons, List.flatten_nil, List.append_nil]
    entry_read
    pointwise
    rfl
  win d f := by
    unfold V V0
    simp only [List.flatten_cons, List.flatten_nil, List.append_nil]
    entry_read
    pointwise
    rfl
  cw j f := by rw [V_main_arg3]; rfl
  cb f := by
    unfold V V0
    simp only [List.flatten_cons, List.flatten_nil, List.append_nil]
    entry_read
    pointwise
    rfl
  wd f d := by
    unfold V V0
    simp only [List.flatten_cons, List.flatten_nil, List.append_nil]
    entry_read
    pointwise
    rfl
  g d := by
    unfold V V0
    simp only [List.flatten_cons, List.flatten_nil, List.append_nil]
    entry_read
    pointwise
    rfl

/-- The number of row `s` of prompt `b`. -/
def prow (b : Fin 4) (s : Fin 8192) : Fin 32768 := ⟨8192 * b.val + s.val, by omega⟩

/-- After the call each array holds what the pipeline leaves in it. -/
theorem arr_held (w : Fin cfg0.W) :
    Pipeline.withArrays (cfgs 0).spec c (V0 m c) (fun w => (dats m 0 c).arrAt w (cfgs 0).N) (Proc.devRef .tc (Pipeline.arrRef spec0 w))
      = (dat m c).arrAt w cfg0.N :=
  Pipeline.withArrays_arr_shared spec0 c (V0 m c) (fun w => (dat m c).arrAt w cfg0.N)
    ((dat m c).arrAt_sharedIn sharedIn0 (V0 m c) (fun w => A_eq m c w) cfg0.N) w

/-- The first result after the host operations that follow the call. -/
theorem out_value (b : Fin 4) (s : Fin 8192) (d : Fin 2048) :
    (Pipeline.afterTail₀ cfgs (dats m) 0 (V0 m) [hostOps1] c main_v8 (ix3 b s d) : EReal) = (args m c).out (prow b s) d := by
  unfold Pipeline.afterTail₀
  simp only [List.flatten_cons, List.flatten_nil, List.append_nil]
  entry_read
  pointwise
  refine (congrFun (arr_held m c 8) _).trans ?_
  rw [show (⟨b.val * 8192 + s.val, by omega⟩ : Fin 32768) = prow b s from Fin.ext (by simp only [prow]; omega)]
  exact out_array (reads m c) _ d

/-- The second result. -/
theorem state_value (b : Fin 4) (a : Fin 2) (f : Fin 5632) :
    (Pipeline.afterTail₀ cfgs (dats m) 0 (V0 m) [hostOps1] c main_v9 (ix3 b a f) : EReal) = (args m c).gate (prow b ⟨8190 + a.val, by omega⟩) f := by
  unfold Pipeline.afterTail₀
  simp only [List.flatten_cons, List.flatten_nil, List.append_nil]
  entry_read
  pointwise
  refine (congrFun (arr_held m c 9) _).trans ((state_array (reads m c) _ a f).trans ?_)
  exact congrArg (fun n => (args m c).gate n f) (Fin.ext (by simp only [prow]; omega))

end Cert.Kernel2Ideal.Ffn
-- ==== Proof.FfnRef.lean ====
module

public import proofs.«01_k».proof.Proof.FfnHost
public import proofs.«01_k».proof.Proof.Gen.Reference2Ideal.Read

@[expose] public section

set_option maxRecDepth 16384

noncomputable section

namespace Cert.Reference2Ideal.Ffn
open Idealize.ShloMosaic Cert.Reference2Ideal Cert.Reference2Ideal.Gen Cert.Reference2Ideal.Read
open Idealize.ShloMosaic.Pointwise
open Cert.Kernel2Ideal.Ffn (Data dotN silu conv3 resid pOf sOf prow)

/-- The exponential is not negative. -/
theorem exp_nonneg (x : EReal) : 0 ≤ Ideal.exp x := by
  induction x with
  | bot => exact le_rfl
  | top => exact le_top
  | coe r => exact EReal.coe_nonneg.2 (Real.exp_pos r).le

/-- One plus an exponential is not zero. -/
theorem one_add_exp_ne_zero (x : EReal) : 1 + Ideal.exp x ≠ 0 :=
  (lt_of_lt_of_le zero_lt_one (le_add_of_nonneg_right (exp_nonneg x))).ne'

/-- The two spellings of the activation agree. -/
theorem silu_eq (v u : EReal) : v * Ideal.div 1 (1 + Ideal.exp (-v)) * u = silu v u := by
  unfold silu
  rw [zero_sub]
  unfold Ideal.div
  rw [if_neg (one_add_exp_ne_zero _), if_neg (one_add_exp_ne_zero _), one_mul]

variable (x0 x1 : FVec Ideal S4x8192x2048 .f32) (x2 : FVec Ideal S2048x11264 .f32) (x3 : FVec Ideal S3x5632 .f32)
  (x4 : FVec Ideal S5632 .f32) (x5 : FVec Ideal S5632x2048 .f32) (x6 : FVec Ideal S2048 .f32)

/-- The operands of the reference. -/
def ops : Data where
  h n d := x0 (ix3 (pOf n) (sOf n) d)
  x n d := x1 (ix3 (pOf n) (sOf n) d)
  win d f := x2 (ix2 d f)
  cw j f := x3 (ix2 j f)
  cb f := x4 (ix1 f)
  wd f d := x5 (ix2 f d)
  g d := x6 (ix1 d)

/-- A row's prompt. -/
theorem pOf_prow (b : Fin 4) (s : Fin 8192) : pOf (prow b s) = b := Fin.ext (by simp only [pOf, prow]; omega)
/-- A row's place in its prompt. -/
theorem sOf_prow (b : Fin 4) (s : Fin 8192) : sOf (prow b s) = s := Fin.ext (by simp only [sOf, prow]; omega)

/-- The input at a row. -/
theorem h_prow (b : Fin 4) (s : Fin 8192) (d : Fin 2048) : (ops x0 x1 x2 x3 x4 x5 x6).h (prow b s) d = x0 (ix3 b s d) := by
  show x0 (ix3 (pOf (prow b s)) (sOf (prow b s)) d) = _
  rw [pOf_prow, sOf_prow]

/-- The residual at a row. -/
theorem x_prow (b : Fin 4) (s : Fin 8192) (d : Fin 2048) : (ops x0 x1 x2 x3 x4 x5 x6).x (prow b s) d = x1 (ix3 b s d) := by
  show x1 (ix3 (pOf (prow b s)) (sOf (prow b s)) d) = _
  rw [pOf_prow, sOf_prow]

/-- The gate projection. -/
theorem gate_ref (i : S4x8192x5632.Idx) : (val_main_v1 (F := Ideal) x0 x2 i : EReal) = (ops x0 x1 x2 x3 x4 x5 x6).gate (prow (i 0) (i 1)) (i 2) := by
  rw [val_main_v1_apply, val_main_v0_apply]
  refine Eq.trans (b := dotN (fun k => x0 (lidx_main_v0 (idx_main_v1 i) k)) (fun k => x2 (ridx_main_v0 (idx_main_v1 i) k))) rfl
    (congrArg₂ dotN (funext fun k => ?_) (funext fun k => congrArg x2 ?_))
  · refine Eq.trans ?_ (h_prow x0 x1 x2 x3 x4 x5 x6 (i 0) (i 1) k).symm
    exact congrArg x0 (funext fun a => match a with
      | 0 => rfl
      | 1 => rfl
      | 2 => rfl)
  · exact funext fun a => match a with
      | 0 => rfl
      | 1 => rfl

/-- The up projection. -/
theorem up_ref (i : S4x8192x5632.Idx) : (val_main_v2 (F := Ideal) x0 x2 i : EReal) = (ops x0 x1 x2 x3 x4 x5 x6).up (prow (i 0) (i 1)) (i 2) := by
  rw [val_main_v2_apply, val_main_v0_apply]
  refine Eq.trans (b := dotN (fun k => x0 (lidx_main_v0 (idx_main_v2 i) k)) (fun k => x2 (ridx_main_v0 (idx_main_v2 i) k))) rfl
    (congrArg₂ dotN (funext fun k => ?_) (funext fun k => congrArg x2 ?_))
  · refine Eq.trans ?_ (h_prow x0 x1 x2 x3 x4 x5 x6 (i 0) (i 1) k).symm
    exact congrArg x0 (funext fun a => match a with
      | 0 => rfl
      | 1 => rfl
      | 2 => rfl)
  · exact funext fun a => match a with
      | 0 => rfl
      | 1 => rfl

/-- The padded gate: two rows of zeros before each prompt. -/
theorem padded_ref (b : Fin 4) (p : Fin 8194) (f : Fin 5632) :
    (val_main_v4 (F := Ideal) x0 x2 (ix3 b p f) : EReal)
      = if h : p.val < 2 then 0 else (ops x0 x1 x2 x3 x4 x5 x6).gate (prow b ⟨p.val - 2, by omega⟩) f := by
  have e := gate_ref x0 x1 x2 x3 x4 x5 x6
  unfold val_main_v4
  generalize val_main_v1 (F := Ideal) x0 x2 = y at e ⊢
  pointwise [val_main_v3, val_main_cst]
  by_cases h : p.val < 2
  · rw [dif_pos h, dif_pos h]
  · rw [dif_neg h, dif_neg h]
    exact e _

/-- A tap of the convolution reads the gate some rows before. -/
theorem tap_ref (j : S4x8194x5632.Idx) (i : S4x8192x5632.Idx) (q : ℕ) (hq : q ≤ 2) (h0 : (j 0).val = (i 0).val)
    (h1 : (j 1).val + q = (i 1).val + 2) (h2 : (j 2).val = (i 2).val) :
    (val_main_v4 (F := Ideal) x0 x2 j : EReal) = (ops x0 x1 x2 x3 x4 x5 x6).gateBack q (prow (i 0) (i 1)) (i 2) := by
  have hi : (i 1).val < 8192 := (i 1).isLt
  have hj : j = ix3 (i 0) ⟨(j 1).val, (j 1).isLt⟩ (i 2) := funext fun a => match a with
    | 0 => Fin.ext h0
    | 1 => rfl
    | 2 => Fin.ext h2
  rw [hj]
  refine (padded_ref x0 x1 x2 x3 x4 x5 x6 _ _ _).trans ?_
  unfold Data.gateBack
  by_cases h : (j 1).val < 2
  · rw [dif_pos h, if_pos (by simp only [prow]; omega)]
  · rw [dif_neg h, if_neg (by simp only [prow]; omega)]
    exact congrArg (fun n => (ops x0 x1 x2 x3 x4 x5 x6).gate n (i 2)) (Fin.ext (by simp only [prow]; omega))

/-- The convolved gate. -/
theorem conv_ref (i : S4x8192x5632.Idx) :
    (val_main_v27 (F := Ideal) x0 x2 x3 x4 i : EReal)
      = conv3 (x4 (ix1 (i 2))) (x3 (ix2 0 (i 2))) (x3 (ix2 1 (i 2))) (x3 (ix2 2 (i 2))) ((ops x0 x1 x2 x3 x4 x5 x6).gateBack 2 (prow (i 0) (i 1)) (i 2))
          ((ops x0 x1 x2 x3 x4 x5 x6).gateBack 1 (prow (i 0) (i 1)) (i 2)) ((ops x0 x1 x2 x3 x4 x5 x6).gate (prow (i 0) (i 1)) (i 2)) := by
  have hi : (i 2).val < 5632 := (i 2).isLt
  have t2 : (val_main_v7 (F := Ideal) x0 x2 i : EReal) = (ops x0 x1 x2 x3 x4 x5 x6).gateBack 2 (prow (i 0) (i 1)) (i 2) := by
    rw [val_main_v7_apply]
    exact tap_ref x0 x1 x2 x3 x4 x5 x6 _ i 2 le_rfl rfl rfl rfl
  have t1 : (val_main_v16 (F := Ideal) x0 x2 i : EReal) = (ops x0 x1 x2 x3 x4 x5 x6).gateBack 1 (prow (i 0) (i 1)) (i 2) := by
    rw [val_main_v16_apply]
    exact tap_ref x0 x1 x2 x3 x4 x5 x6 _ i 1 (by decide) rfl (by show 1 + (i 1).val + 1 = (i 1).val + 2; omega) rfl
  have t0 : (val_main_v23 (F := Ideal) x0 x2 i : EReal) = (ops x0 x1 x2 x3 x4 x5 x6).gate (prow (i 0) (i 1)) (i 2) := by
    rw [val_main_v23_apply]
    refine (tap_ref x0 x1 x2 x3 x4 x5 x6 _ i 0 (by decide) rfl (by show 2 + (i 1).val + 0 = (i 1).val + 2; omega) rfl).trans ?_
    unfold Data.gateBack
    rw [if_neg (Nat.not_lt_zero _)]
    rfl
  have e4 : (val_main_v12 (F := Ideal) x4 i : EReal) = x4 (ix1 (i 2)) := by
    rw [val_main_v12_apply, val_main_v11_apply]
    exact congrArg x4 (funext fun a => match a with | 0 => rfl)
  have w0 : (val_main_v9 (F := Ideal) x3 i : EReal) = x3 (ix2 0 (i 2)) := by
    rw [val_main_v9_apply, val_main_v8_apply, val_main_v6_apply, val_main_v5_apply]
    exact congrArg x3 (funext fun a => match a with | 0 => rfl | 1 => Fin.ext (Nat.mod_eq_of_lt hi))
  have w1 : (val_main_v18 (F := Ideal) x3 i : EReal) = x3 (ix2 1 (i 2)) := by
    rw [val_main_v18_apply, val_main_v17_apply, val_main_v15_apply, val_main_v14_apply]
    exact congrArg x3 (funext fun a => match a with | 0 => rfl | 1 => Fin.ext (Nat.mod_eq_of_lt hi))
  have w2 : (val_main_v25 (F := Ideal) x3 i : EReal) = x3 (ix2 2 (i 2)) := by
    rw [val_main_v25_apply, val_main_v24_apply, val_main_v22_apply, val_main_v21_apply]
    exact congrArg x3 (funext fun a => match a with | 0 => rfl | 1 => Fin.ext (Nat.mod_eq_of_lt hi))
  rw [val_main_v27_apply, val_main_v20_apply, val_main_v13_apply, val_main_v10_apply, val_main_v19_apply, val_main_v26_apply,
    t0, t1, t2, e4, w0, w1, w2]
  rfl

/-- The activation. -/
theorem act_ref (i : S4x8192x5632.Idx) :
    (val_main_v29 (F := Ideal) x0 x2 x3 x4 i : EReal) = (ops x0 x1 x2 x3 x4 x5 x6).act (prow (i 0) (i 1)) (i 2) := by
  have one : (FloatOps.ofBits (F := Ideal) .f32 0x3F800000#32 : EReal) = 1 := by
    show (Ideal.ofBits .f32 0x3F800000#32 : EReal) = 1
    simp [Ideal.ofBits, Ideal.ieee]
    rw [← EReal.coe_mul]
    norm_num
  rw [val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply,
    conv_ref x0 x1 x2 x3 x4 x5 x6 i, up_ref x0 x1 x2 x3 x4 x5 x6 i, one]
  exact silu_eq _ _

/-- The down projection. -/
theorem down_ref (i : S4x8192x2048.Idx) :
    (val_main_v30 (F := Ideal) x0 x2 x3 x4 x5 i : EReal) = (ops x0 x1 x2 x3 x4 x5 x6).down (prow (i 0) (i 1)) (i 2) := by
  rw [val_main_v30_apply]
  refine Eq.trans (b := dotN (fun k => val_main_v29 (F := Ideal) x0 x2 x3 x4 (lidx_main_v30 i k)) (fun k => x5 (ridx_main_v30 i k))) rfl
    (congrArg₂ dotN (funext fun k => act_ref x0 x1 x2 x3 x4 x5 x6 _) (funext fun k => congrArg x5 ?_))
  exact funext fun a => match a with
      | 0 => rfl
      | 1 => rfl

/-- The reference's first result. -/
theorem out_ref (i : S4x8192x2048.Idx) :
    (val_main_v44 (F := Ideal) x0 x1 x2 x3 x4 x5 x6 i : EReal) = (ops x0 x1 x2 x3 x4 x5 x6).out (prow (i 0) (i 1)) (i 2) := by
  have hz : (val_main_cst_0 (F := Ideal) (Shape.Idx.first h_S_) : EReal) = 0 := by
    show (Ideal.ofBits .f32 0x00000000#32 : EReal) = 0
    simp [Ideal.ofBits, Ideal.ieee]
  have ms : ∀ j, (val_main_v32 (F := Ideal) x0 x2 x3 x4 x5 j : EReal)
      = dotN ((ops x0 x1 x2 x3 x4 x5 x6).down (prow (j 0) (j 1))) ((ops x0 x1 x2 x3 x4 x5 x6).down (prow (j 0) (j 1))) := fun j => by
    rw [val_main_v32_apply, hz, zero_add]
    refine Finset.sum_congr (M := EReal) rfl fun (k : Fin 2048) _ => ?_
    rw [val_main_v31_apply]
    exact congrArg₂ (α := EReal) (β := EReal) (· * ·) (down_ref x0 x1 x2 x3 x4 x5 x6 _) (down_ref x0 x1 x2 x3 x4 x5 x6 _)
  have eg : (val_main_v42 (F := Ideal) x6 i : EReal) = x6 (ix1 (i 2)) := by
    rw [val_main_v42_apply, val_main_v41_apply]
    exact congrArg x6 (funext fun a => match a with | 0 => rfl)
  rw [val_main_v44_apply, val_main_v43_apply, val_main_v40_apply, val_main_v39_apply, val_main_v38_apply, val_main_v37_apply,
    val_main_v36_apply, val_main_cst_2_apply, val_main_v35_apply, val_main_v34_apply, val_main_cst_1_apply, val_main_v33_apply,
    ms, eg, down_ref x0 x1 x2 x3 x4 x5 x6 i]
  have ex : x1 i = (ops x0 x1 x2 x3 x4 x5 x6).x (prow (i 0) (i 1)) (i 2) := by
    refine Eq.trans ?_ (x_prow x0 x1 x2 x3 x4 x5 x6 (i 0) (i 1) (i 2)).symm
    exact congrArg x1 (funext fun a => match a with
      | 0 => rfl
      | 1 => rfl
      | 2 => rfl)
  rw [ex]
  rfl

/-- The reference's second result. -/
theorem state_ref (i : S4x2x5632.Idx) :
    (val_main_v45 (F := Ideal) x0 x2 i : EReal)
      = (ops x0 x1 x2 x3 x4 x5 x6).gate (prow (i 0) ⟨8190 + (i 1).val, by have h : (i 1).val < 2 := (i 1).isLt; omega⟩) (i 2) := by
  have h : (i 1).val < 2 := (i 1).isLt
  rw [val_main_v45_apply]
  refine (tap_ref x0 x1 x2 x3 x4 x5 x6 _ (ix3 (i 0) ⟨8190 + (i 1).val, by omega⟩ (i 2)) 0 (by decide) rfl
    (by show 8192 + (i 1).val + 0 = 8190 + (i 1).val + 2; omega) rfl).trans ?_
  unfold Data.gateBack
  rw [if_neg (Nat.not_lt_zero _)]
  rfl

end Cert.Reference2Ideal.Ffn
-- ==== Proof.FfnSame.lean ====
module

public import proofs.«01_k».proof.Proof.FfnRef
public import proofs.«01_k».proof.Proof.Gen.Reference2Ideal.Run
public import proofs.«01_k».proof.Defs
public import proofs.«01_k».proof.Proof.Gen.Kernel2

@[expose] public section

set_option maxRecDepth 16384
noncomputable section
namespace Cert.Same
open Idealize.ShloMosaic Idealize.ShloMosaic.TcCoe Idealize.SL.Sem

variable {F : FTy → Type} [FloatOps F]

/-- The two programs' bodies are the same. -/
theorem bodies : Cert.Kernel2.defs₀ (F := F) = Cert.Kernel2Ideal.defs₀ (F := F) :=
  congrArg Defs.onTc (funext fun l => funext fun x => by
    match l, x with
    | 0, (t, s) => rfl
    | ⟨_ + 1, h⟩, _ => exact absurd h (Nat.not_lt.2 (Nat.le_add_left _ _)))

/-- The two programs' definitions are the same. -/
theorem defs : Cert.Kernel2.defs (F := F) = Cert.Kernel2Ideal.defs (F := F) :=
  congrArg (Pipeline.defs Cert.Kernel2.pcfgs) bodies

/-- The printed kernel runs as its idealization does, which applies no rule to it. -/
theorem runs {Q} (m : (ℓ : Loc Cert.Kernel2.nD Cert.Kernel2.τ Cert.Kernel2.sig) → Buf (Elt F) ℓ) (g : Dev Cert.Kernel2.nD → PrngReg)
    (h : θ_run (Cert.Kernel2Ideal.defs (F := F)) (onTc (τ := Cert.Kernel2Ideal.τ) (Cert.Kernel2Ideal.main (F := F))) ⟨m, fun _ => 0, g⟩ Q) :
    θ_run (Cert.Kernel2.defs (F := F)) (onTc (τ := Cert.Kernel2.τ) (Cert.Kernel2.main (F := F))) ⟨m, fun _ => 0, g⟩ Q := by
  rw [defs]; exact h

/-- The printed kernel's frame. -/
theorem kernel_frame : @Cert.quiescent_Kernel2 Cert.Kernel2.Gen.facts :=
  fun m g _ => runs m g (Cert.Kernel2Ideal.Ffn.frame (F := Bits) m g)

/-- The idealized kernel's frame. -/
theorem ideal_frame : @Cert.quiescent_Kernel2Ideal Cert.Kernel2Ideal.Gen.facts :=
  fun m g _ => Cert.Kernel2Ideal.Ffn.frame m g

/-- The reference's frame. -/
theorem ref_frame : @Cert.quiescent_Reference2Ideal Cert.Reference2Ideal.Gen.facts := fun m g _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m g)

open Cert.Kernel2Ideal.Gen in
/-- The first results agree. -/
theorem out_same (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v44 (F := Ideal) (m (c.tc.loc Cert.Kernel2Ideal.main_arg0)) (m (c.tc.loc Cert.Kernel2Ideal.main_arg1))
        (m (c.tc.loc Cert.Kernel2Ideal.main_arg2)) (m (c.tc.loc Cert.Kernel2Ideal.main_arg3)) (m (c.tc.loc Cert.Kernel2Ideal.main_arg4))
        (m (c.tc.loc Cert.Kernel2Ideal.main_arg5)) (m (c.tc.loc Cert.Kernel2Ideal.main_arg6))
      = Pipeline.afterTail₀ Cert.Kernel2Ideal.cfgs (Cert.Kernel2Ideal.Ffn.dats m) 0 (V0 m) [hostOps1] c Cert.Kernel2Ideal.main_v8 := by
  funext i
  refine (Cert.Reference2Ideal.Ffn.out_ref _ _ _ _ _ _ _ i).trans (Eq.trans ?_
    ((Cert.Kernel2Ideal.Ffn.out_value m c (i 0) (i 1) (i 2)).symm.trans
      (congrArg (Pipeline.afterTail₀ Cert.Kernel2Ideal.cfgs (Cert.Kernel2Ideal.Ffn.dats m) 0 (V0 m) [hostOps1] c Cert.Kernel2Ideal.main_v8)
        (funext fun a => match a with
          | 0 => rfl
          | 1 => rfl
          | 2 => rfl))))
  rfl

open Cert.Kernel2Ideal.Gen in
/-- The second results agree. -/
theorem state_same (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v45 (F := Ideal) (m (c.tc.loc Cert.Kernel2Ideal.main_arg0)) (m (c.tc.loc Cert.Kernel2Ideal.main_arg2))
      = Pipeline.afterTail₀ Cert.Kernel2Ideal.cfgs (Cert.Kernel2Ideal.Ffn.dats m) 0 (V0 m) [hostOps1] c Cert.Kernel2Ideal.main_v9 := by
  funext i
  refine (Cert.Reference2Ideal.Ffn.state_ref (m (c.tc.loc Cert.Kernel2Ideal.main_arg0)) (m (c.tc.loc Cert.Kernel2Ideal.main_arg1))
        (m (c.tc.loc Cert.Kernel2Ideal.main_arg2)) (m (c.tc.loc Cert.Kernel2Ideal.main_arg3)) (m (c.tc.loc Cert.Kernel2Ideal.main_arg4))
        (m (c.tc.loc Cert.Kernel2Ideal.main_arg5)) (m (c.tc.loc Cert.Kernel2Ideal.main_arg6)) i).trans (Eq.trans ?_
    ((Cert.Kernel2Ideal.Ffn.state_value m c (i 0) (i 1) (i 2)).symm.trans
      (congrArg (Pipeline.afterTail₀ Cert.Kernel2Ideal.cfgs (Cert.Kernel2Ideal.Ffn.dats m) 0 (V0 m) [hostOps1] c Cert.Kernel2Ideal.main_v9)
        (funext fun a => match a with
          | 0 => rfl
          | 1 => rfl
          | 2 => rfl))))
  rfl

/-- For all arguments the kernel and the reference end with the same two results. -/
theorem ffn_equal : @Cert.algebraic_Kernel2Ideal_Reference2Ideal Cert.Kernel2Ideal.Gen.facts Cert.Reference2Ideal.Gen.facts := fun m g m' g' _ ha =>
  ⟨fun c => Pipeline.afterTail₀ Cert.Kernel2Ideal.cfgs (Cert.Kernel2Ideal.Ffn.dats m) 0 (Cert.Kernel2Ideal.Gen.V0 m) [Cert.Kernel2Ideal.Gen.hostOps1] c Cert.Kernel2Ideal.main_v8,
   fun c => Pipeline.afterTail₀ Cert.Kernel2Ideal.cfgs (Cert.Kernel2Ideal.Ffn.dats m) 0 (Cert.Kernel2Ideal.Gen.V0 m) [Cert.Kernel2Ideal.Gen.hostOps1] c Cert.Kernel2Ideal.main_v9,
   Cert.Kernel2Ideal.Ffn.run_results m g,
   (θ_run Cert.Reference2Ideal.defs _ _).mono
    (fun r h c => by
      obtain ⟨e0, e1, e2, e3, e4, e5, e6⟩ := ha c
      refine ⟨(h c).1.trans ((Cert.Reference2Ideal.Read.val_main_v44_eq m' c).trans ?_), (h c).2.1.trans ((Cert.Reference2Ideal.Read.val_main_v45_eq _ _).trans ?_), (h c).2.2⟩
      · rw [e0, e1, e2, e3, e4, e5, e6]
        exact out_same m c
      · rw [e0, e2]
        exact state_same m c)
    (Cert.Reference2Ideal.Value.run (F := Ideal) m' g')⟩

end Cert.Same
-- ==== Proof.Norm.lean ====
module

public import Idealize.ShloMosaic.Lib.Pointwise

@[expose] public section

noncomputable section

namespace Cert.Norm
open Idealize.ShloMosaic

/-- The sum of `n` products. -/
def dot {n : ℕ} (f g : Fin n → EReal) : EReal := ∑ r : Fin n, f r * g r

/-- A row's RMS normalization at one entry: the row `y`, the pattern `N` of its length, the weights `g`. -/
def rms {n : ℕ} (N : BitVec 32) (y g : Fin n → EReal) (i : Fin n) : EReal :=
  y i * Ideal.rsqrt (Ideal.div (dot y y) (Ideal.ofBits .f32 N) + Ideal.ofBits .f32 0x358637BD#32) * g i

end Cert.Norm
-- ==== Proof.MlaArr.lean ====
module

public import proofs.«01_k».proof.Proof.Norm
public import proofs.«01_k».proof.Proof.Gen.Kernel3Ideal.Frame
public import proofs.«01_k».proof.Proof.Gen.Kernel3Ideal.Skeleton
public import Idealize.ShloMosaic.Lib.Pipeline.ValueKit
public import Idealize.ShloMosaic.Lib.VecWindow
public import Idealize.ShloMosaic.Lib.Pointwise

@[expose] public section

set_option maxRecDepth 16384

noncomputable section

namespace Cert.Kernel3Ideal.Mla
open Idealize.ShloMosaic Idealize.SL.Sem Cert.Kernel3Ideal Cert.Kernel3Ideal.Gen
open Idealize.ShloMosaic.Pointwise Cert.Norm

/-- Which block of its array window 0 holds at a point. -/
theorem idx0 : ∀ t : Fin cfg0.N, win0_0.index t = ![t.val, 0] := (by decide +kernel : ∀ t : Fin grid0.N, _)
/-- Which block of its array window 1 holds at a point. -/
theorem idx1 : ∀ t : Fin cfg0.N, win0_1.index t = ![0, 0] := (by decide +kernel : ∀ t : Fin grid0.N, _)
/-- Which block of its array window 2 holds at a point. -/
theorem idx2 : ∀ t : Fin cfg0.N, win0_2.index t = ![0, 0] := (by decide +kernel : ∀ t : Fin grid0.N, _)
/-- Which block of its array window 3 holds at a point. -/
theorem idx3 : ∀ t : Fin cfg0.N, win0_3.index t = ![0, 0] := (by decide +kernel : ∀ t : Fin grid0.N, _)
/-- Which block of its array window 4 holds at a point. -/
theorem idx4 : ∀ t : Fin cfg0.N, win0_4.index t = ![0, 0] := (by decide +kernel : ∀ t : Fin grid0.N, _)
/-- Which block of its array window 5 holds at a point. -/
theorem idx5 : ∀ t : Fin cfg0.N, win0_5.index t = ![t.val % 16, 0] := (by decide +kernel : ∀ t : Fin grid0.N, _)
/-- Which block of its array window 6 holds at a point. -/
theorem idx6 : ∀ t : Fin cfg0.N, win0_6.index t = ![t.val, 0] := (by decide +kernel : ∀ t : Fin grid0.N, _)
/-- Which block of its array window 7 holds at a point. -/
theorem idx7 : ∀ t : Fin cfg0.N, win0_7.index t = ![t.val, 0] := (by decide +kernel : ∀ t : Fin grid0.N, _)
/-- Which block of its array window 9 holds at a point. -/
theorem idx9 : ∀ t : Fin cfg0.N, win0_9.index t = ![t.val, 0] := (by decide +kernel : ∀ t : Fin grid0.N, _)

/-- The call's operands, with the prompts' rows numbered together: `w` has the rotary columns twice, the second time with
    their halves swapped, and `tab` the cosines and the signed sines of each place in a prompt. -/
structure Data where
  x : Fin 32768 → Fin 2048 → EReal
  g : Fin 2048 → EReal
  w : Fin 2048 → Fin 1152 → EReal
  gq : Fin 512 → EReal
  gkv : Fin 512 → EReal
  tab : Fin 8192 → Fin 128 → EReal

/-- Row `n`'s place in its prompt. -/
def sOf (n : Fin 32768) : Fin 8192 := ⟨n.val % 8192, by omega⟩

namespace Data
variable (D : Data)

/-- The projection of the normalized input. -/
def a (n : Fin 32768) (j : Fin 1152) : EReal := dot (rms 0x45000000#32 (D.x n) D.g) (fun d => D.w d j)
/-- The queries' latents. -/
def cq (n : Fin 32768) (j : Fin 512) : EReal := rms 0x44000000#32 (fun j : Fin 512 => D.a n ⟨j.val, by omega⟩) D.gq j
/-- The keys' and values' latents. -/
def ckv (n : Fin 32768) (j : Fin 512) : EReal := rms 0x44000000#32 (fun j : Fin 512 => D.a n ⟨512 + j.val, by omega⟩) D.gkv j
/-- The rotated keys. -/
def kpe (n : Fin 32768) (e : Fin 64) : EReal :=
  D.a n ⟨1024 + e.val, by omega⟩ * D.tab (sOf n) ⟨e.val, by omega⟩ + D.a n ⟨1088 + e.val, by omega⟩ * D.tab (sOf n) ⟨64 + e.val, by omega⟩

end Data

/-- A block of the projection. -/
theorem proj_apply (x0 : Vec Ideal S512x2048 .f32) (x1 : Vec Ideal S1x2048 .f32) (x2 : Vec Ideal S2048x1152 .bf16) (a : Fin 512) (j : Fin 1152) :
    (k0_pay6 (F := Ideal) x0 x1 x2 (ix2 a j) : EReal)
      = dot (rms 0x45000000#32 (fun d : Fin 2048 => x0 (ix2 a d)) (fun d => x1 (ix2 0 d))) (fun d => x2 (ix2 d j)) := by
  pointwise [k0_pay6]
  rfl

/-- A block of the queries' latents. -/
theorem cq_apply (x0 : Vec Ideal S512x2048 .f32) (x1 : Vec Ideal S1x2048 .f32) (x2 : Vec Ideal S2048x1152 .bf16) (x3 : Vec Ideal S1x512 .f32) (a j : Fin 512) :
    (k0_pay7 (F := Ideal) x0 x1 x2 x3 (ix2 a j) : EReal)
      = rms 0x44000000#32 (fun j : Fin 512 => (k0_pay6 (F := Ideal) x0 x1 x2 (ix2 a ⟨j.val, by omega⟩) : EReal)) (fun j => x3 (ix2 0 j)) j := by
  unfold k0_pay7
  generalize k0_pay6 (F := Ideal) x0 x1 x2 = y
  pointwise
  rfl

/-- A block of the latents, from the projection's columns. -/
theorem ckv_apply (y : FVec Ideal S512x512 .f32) (x4 : Vec Ideal S1x512 .f32) (a j : Fin 512) :
    (k0_pay1 (F := Ideal) y x4 (ix2 a j) : EReal) = rms 0x44000000#32 (fun j : Fin 512 => (y (ix2 a j) : EReal)) (fun j => x4 (ix2 0 j)) j := by
  pointwise [k0_pay1]
  rfl

/-- The latents' columns of the projection. -/
theorem cols_apply (x0 : Vec Ideal S512x2048 .f32) (x1 : Vec Ideal S1x2048 .f32) (x2 : Vec Ideal S2048x1152 .bf16) (a j : Fin 512) :
    (k0_pay8 (F := Ideal) x0 x1 x2 (ix2 a j) : EReal) = k0_pay6 (F := Ideal) x0 x1 x2 (ix2 a ⟨512 + j.val, by omega⟩) := by
  unfold k0_pay8
  generalize k0_pay6 (F := Ideal) x0 x1 x2 = y
  pointwise

/-- A block of the rotated keys. -/
theorem kpe_apply (y : FVec Ideal S512x1152 .f32) (x5 : Vec Ideal S512x128 .f32) (a : Fin 512) (e : Fin 64) :
    (k0_pay4 (F := Ideal) y x5 (ix2 a e) : EReal)
      = (y (ix2 a ⟨1024 + e.val, by omega⟩) : EReal) * x5 (ix2 a ⟨e.val, by omega⟩) + (y (ix2 a ⟨1088 + e.val, by omega⟩) : EReal) * x5 (ix2 a ⟨64 + e.val, by omega⟩) := by
  pointwise [k0_pay4, k0_pay3]
  exact congrArg₂ (α := EReal) (β := EReal) (· + ·) rfl (congrArg₂ (α := EReal) (β := EReal) (· * ·)
    (congrArg (fun j => (y (ix2 a j) : EReal)) (Fin.ext (by show 1024 + (e.val + 128 - 64) % 128 = 1088 + e.val; omega)))
    (congrArg (fun j => (x5 (ix2 a j) : EReal)) (Fin.ext (by show (e.val + 128 - 64) % 128 = 64 + e.val; omega))))

/-- The block of the queries' latents, from the call's blocks. -/
theorem out6_apply (x0 : Vec Ideal S512x2048 .f32) (x1 : Vec Ideal S1x2048 .f32) (x2 : Vec Ideal S2048x1152 .bf16) (x3 x4 : Vec Ideal S1x512 .f32)
    (x5 : Vec Ideal S512x128 .f32) (a j : Fin 512) :
    (out0_6 (F := Ideal) x0 x1 x2 x3 x4 x5 (ix2 a j) : EReal) = k0_pay7 (F := Ideal) x0 x1 x2 x3 (ix2 a j) := by
  unfold_out out0_6
  frame_out

/-- The block of the latents, from the call's blocks. -/
theorem out7_apply (x0 : Vec Ideal S512x2048 .f32) (x1 : Vec Ideal S1x2048 .f32) (x2 : Vec Ideal S2048x1152 .bf16) (x3 x4 : Vec Ideal S1x512 .f32)
    (x5 : Vec Ideal S512x128 .f32) (a j : Fin 512) :
    (out0_7 (F := Ideal) x0 x1 x2 x3 x4 x5 (ix2 a j) : EReal) = k0_pay1 (F := Ideal) (k0_pay8 (F := Ideal) x0 x1 x2) x4 (ix2 a j) := by
  unfold_out out0_7
  frame_out

/-- The block of the rotated keys, from the call's blocks. -/
theorem out9_apply (x0 : Vec Ideal S512x2048 .f32) (x1 : Vec Ideal S1x2048 .f32) (x2 : Vec Ideal S2048x1152 .bf16) (x3 x4 : Vec Ideal S1x512 .f32)
    (x5 : Vec Ideal S512x128 .f32) (a : Fin 512) (e : Fin 64) :
    (out0_9 (F := Ideal) x0 x1 x2 x3 x4 x5 (ix2 a e) : EReal) = k0_pay4 (F := Ideal) (k0_pay6 (F := Ideal) x0 x1 x2) x5 (ix2 a e) := by
  unfold_out out0_9
  frame_out

variable (m : (ℓ : Loc nD τ sig) → Buf (Elt Ideal) ℓ) (c : Dev nD)

/-- The arrays that the call reads hold the operands. -/
structure Reads (D : Data) : Prop where
  x : ∀ n d, (V m c main_v26 (ix2 n d) : EReal) = D.x n d
  g : ∀ d, (V m c main_v27 (ix2 0 d) : EReal) = D.g d
  w : ∀ d j, (V m c main_v25 (ix2 d j) : EReal) = D.w d j
  gq : ∀ j, (V m c main_v28 (ix2 0 j) : EReal) = D.gq j
  gkv : ∀ j, (V m c main_v29 (ix2 0 j) : EReal) = D.gkv j
  tab : ∀ s e, (V m c main_v18 (ix2 s e) : EReal) = D.tab s e

/-- There are 64 points. -/
theorem pt_lt (t : Fin cfg0.N) : t.val < 64 := t.isLt

/-- Row `a` of point `t`'s block of rows. -/
def brow (t : Fin cfg0.N) (a : Fin 512) : Fin 32768 := ⟨512 * t.val + a.val, by have := pt_lt t; omega⟩

section
variable {m c} {D : Data} (R : Reads m c D) (t : Fin cfg0.N)
include R

/-- The block of window 0, element by element. -/
theorem blk0 (a : Fin 512) (d : Fin 2048) : (iblk m c 0 t (ix2 a d) : EReal) = D.x (brow t a) d := by
  rw [← R.x]
  blk_simp [iblk]
  refine congrArg (V m c main_v26) ?_
  blk_ext [idx0, brow]
/-- The block of window 1, element by element. -/
theorem blk1 (d : Fin 2048) : (iblk m c 1 t (ix2 0 d) : EReal) = D.g d := by
  rw [← R.g]
  blk_simp [iblk]
  refine congrArg (V m c main_v27) ?_
  blk_ext [idx1]
/-- The block of window 2, element by element. -/
theorem blk2 (d : Fin 2048) (j : Fin 1152) : (iblk m c 2 t (ix2 d j) : EReal) = D.w d j := by
  rw [← R.w]
  blk_simp [iblk]
  refine congrArg (V m c main_v25) ?_
  blk_ext [idx2]
/-- The block of window 3, element by element. -/
theorem blk3 (j : Fin 512) : (iblk m c 3 t (ix2 0 j) : EReal) = D.gq j := by
  rw [← R.gq]
  blk_simp [iblk]
  refine congrArg (V m c main_v28) ?_
  blk_ext [idx3]
/-- The block of window 4, element by element. -/
theorem blk4 (j : Fin 512) : (iblk m c 4 t (ix2 0 j) : EReal) = D.gkv j := by
  rw [← R.gkv]
  blk_simp [iblk]
  refine congrArg (V m c main_v29) ?_
  blk_ext [idx4]
/-- The block of window 5, element by element. -/
theorem blk5 (a : Fin 512) (e : Fin 128) : (iblk m c 5 t (ix2 a e) : EReal) = D.tab (sOf (brow t a)) e := by
  rw [← R.tab]
  blk_simp [iblk]
  refine congrArg (V m c main_v18) ?_
  blk_ext [idx5, sOf, brow]

/-- The projection's block. -/
theorem proj_blk (a : Fin 512) (j : Fin 1152) :
    (k0_pay6 (F := Ideal) (iblk m c 0 t) (iblk m c 1 t) (iblk m c 2 t) (ix2 a j) : EReal) = D.a (brow t a) j := by
  refine (proj_apply _ _ _ a j).trans ?_
  unfold Data.a
  rw [show (fun d : Fin 2048 => (iblk m c 0 t (ix2 a d) : EReal)) = D.x (brow t a) from funext fun d => blk0 R t a d,
    show (fun d : Fin 2048 => (iblk m c 1 t (ix2 0 d) : EReal)) = D.g from funext fun d => blk1 R t d,
    show (fun d : Fin 2048 => (iblk m c 2 t (ix2 d j) : EReal)) = (fun d => D.w d j) from funext fun d => blk2 R t d j]

end

section
variable {m c} {D : Data} (R : Reads m c D)
include R

/-- The array of the queries' latents. -/
theorem cq_array (n : Fin 32768) (j : Fin 512) : ((dats m 0 c).arrAt 6 cfg0.N (ix2 n j) : EReal) = D.cq n j := by
  suffices h : ∀ i, ∀ n j, i = ix2 n j → ((dats m 0 c).arrAt 6 cfg0.N i : EReal) = D.cq n j from h _ n j rfl
  refine (dats m 0 c).arrAt_forall_of_covers 6 (fun i v => ∀ n j, i = ix2 n j → (v : EReal) = D.cq n j) (by decide +kernel) (fun t hf y => ?_)
  intro n j hi
  have h0 := congrArg Fin.val (congrFun hi 0)
  have h1 := congrArg Fin.val (congrFun hi 1)
  blk_simp [idx6] at h0 h1
  blk_simp
  rw [after0_6]
  have ht : t.val < 64 := t.isLt
  have hy : (y 0).val < 512 := (y 0).isLt
  obtain ⟨p, hp⟩ : ∃ p : Fin 512, (y 0).val = p.val := ⟨⟨(y 0).val, hy⟩, rfl⟩
  obtain rfl : n = brow t p := Fin.ext (by simp only [brow]; omega)
  have hy2 : y = ix2 p j := funext fun x => match x with
    | 0 => Fin.ext hp
    | 1 => Fin.ext (by show (y 1).val = j.val; omega)
  rw [hy2]
  refine (out6_apply _ _ _ _ _ _ _ _).trans ?_
  refine (cq_apply _ _ _ _ _ _).trans ?_
  unfold Data.cq
  exact congrArg₂ (fun y g => rms 0x44000000#32 y g j) (funext fun j => proj_blk R t _ _) (funext fun j => blk3 R t j)

/-- The array of the keys' and values' latents. -/
theorem ckv_array (n : Fin 32768) (j : Fin 512) : ((dats m 0 c).arrAt 7 cfg0.N (ix2 n j) : EReal) = D.ckv n j := by
  suffices h : ∀ i, ∀ n j, i = ix2 n j → ((dats m 0 c).arrAt 7 cfg0.N i : EReal) = D.ckv n j from h _ n j rfl
  refine (dats m 0 c).arrAt_forall_of_covers 7 (fun i v => ∀ n j, i = ix2 n j → (v : EReal) = D.ckv n j) (by decide +kernel) (fun t hf y => ?_)
  intro n j hi
  have h0 := congrArg Fin.val (congrFun hi 0)
  have h1 := congrArg Fin.val (congrFun hi 1)
  blk_simp [idx7] at h0 h1
  blk_simp
  rw [after0_7]
  have ht : t.val < 64 := t.isLt
  have hy : (y 0).val < 512 := (y 0).isLt
  obtain ⟨p, hp⟩ : ∃ p : Fin 512, (y 0).val = p.val := ⟨⟨(y 0).val, hy⟩, rfl⟩
  obtain rfl : n = brow t p := Fin.ext (by simp only [brow]; omega)
  have hy2 : y = ix2 p j := funext fun x => match x with
    | 0 => Fin.ext hp
    | 1 => Fin.ext (by show (y 1).val = j.val; omega)
  rw [hy2]
  refine (out7_apply _ _ _ _ _ _ _ _).trans ?_
  refine (ckv_apply _ _ _ _).trans ?_
  unfold Data.ckv
  exact congrArg₂ (fun y g => rms 0x44000000#32 y g j) (funext fun j => (cols_apply _ _ _ _ _).trans (proj_blk R t _ _)) (funext fun j => blk4 R t j)

/-- The array of the rotated keys. -/
theorem kpe_array (n : Fin 32768) (e : Fin 64) : ((dats m 0 c).arrAt 9 cfg0.N (ix2 n e) : EReal) = D.kpe n e := by
  suffices h : ∀ i, ∀ n e, i = ix2 n e → ((dats m 0 c).arrAt 9 cfg0.N i : EReal) = D.kpe n e from h _ n e rfl
  refine (dats m 0 c).arrAt_forall_of_covers 9 (fun i v => ∀ n e, i = ix2 n e → (v : EReal) = D.kpe n e) (by decide +kernel) (fun t hf y => ?_)
  intro n e hi
  have h0 := congrArg Fin.val (congrFun hi 0)
  have h1 := congrArg Fin.val (congrFun hi 1)
  blk_simp [idx9] at h0 h1
  blk_simp
  rw [after0_9]
  have ht : t.val < 64 := t.isLt
  have hy : (y 0).val < 512 := (y 0).isLt
  obtain ⟨p, hp⟩ : ∃ p : Fin 512, (y 0).val = p.val := ⟨⟨(y 0).val, hy⟩, rfl⟩
  obtain rfl : n = brow t p := Fin.ext (by simp only [brow]; omega)
  have hy2 : y = ix2 p e := funext fun x => match x with
    | 0 => Fin.ext hp
    | 1 => Fin.ext (by show (y 1).val = e.val; omega)
  rw [hy2]
  refine (out9_apply _ _ _ _ _ _ _ _).trans ?_
  refine (kpe_apply _ _ _ _).trans ?_
  unfold Data.kpe
  exact congrArg₂ (α := EReal) (β := EReal) (· + ·)
    (congrArg₂ (α := EReal) (β := EReal) (· * ·) (proj_blk R t _ _) (blk5 R t _ _))
    (congrArg₂ (α := EReal) (β := EReal) (· * ·) (proj_blk R t _ _) (blk5 R t _ _))

end

end Cert.Kernel3Ideal.Mla
-- ==== Proof.MlaHost.lean ====
module

public import proofs.«01_k».proof.Proof.MlaArr
public import proofs.«01_k».proof.Proof.Gen.Reference3Ideal.Read
public import Idealize.ShloMosaic.Lib.KernelVsHost

@[expose] public section

set_option maxRecDepth 16384

noncomputable section

namespace Cert.Kernel3Ideal.Mla
open Idealize.ShloMosaic Idealize.SL.Sem Cert.Kernel3Ideal Cert.Kernel3Ideal.Gen
open Idealize.ShloMosaic.Pointwise Cert.Norm

/-- The cosine of a place's angle. -/
def cosT (s : Fin 8192) (k : Fin 32) : EReal := Cert.Reference3Ideal.Read.val_main_v57 (F := Ideal) (ix2 s k)
/-- The sine of a place's angle. -/
def sinT (s : Fin 8192) (k : Fin 32) : EReal := Cert.Reference3Ideal.Read.val_main_v59 (F := Ideal) (ix2 s k)

/-- The prompt that row `n` belongs to. -/
def pOf (n : Fin 32768) : Fin 4 := ⟨n.val / 8192, by omega⟩
/-- The number of row `s` of prompt `b`. -/
def prow (b : Fin 4) (s : Fin 8192) : Fin 32768 := ⟨8192 * b.val + s.val, by omega⟩

/-- The call's operands, of the layer's. -/
def ops (x : Fin 4 → Fin 8192 → Fin 2048 → EReal) (g : Fin 2048 → EReal) (w : Fin 2048 → Fin 1088 → EReal) (gq gkv : Fin 512 → EReal) : Data where
  x n d := x (pOf n) (sOf n) d
  g := g
  w d j := if h : j.val < 1088 then w d ⟨j.val, h⟩ else if h' : j.val < 1120 then w d ⟨j.val - 32, by omega⟩ else w d ⟨j.val - 96, by omega⟩
  gq := gq
  gkv := gkv
  tab s e := if h : e.val < 32 then cosT s ⟨e.val, h⟩ else if h' : e.val < 64 then cosT s ⟨e.val - 32, by omega⟩
    else if h'' : e.val < 96 then -(sinT s ⟨e.val - 64, by omega⟩) else sinT s ⟨e.val - 96, by omega⟩

variable (m : (ℓ : Loc nD τ sig) → Buf (Elt Ideal) ℓ) (ρ : Dev nD → PrngReg) (c : Dev nD)

/-- The operands as launched. -/
def args : Data := ops (fun b s d => m (c.tc.loc main_arg0) (ix3 b s d)) (fun d => m (c.tc.loc main_arg1) (ix1 d))
  (fun d j => m (c.tc.loc main_arg2) (ix2 d j)) (fun j => m (c.tc.loc main_arg3) (ix1 j)) (fun j => m (c.tc.loc main_arg4) (ix1 j))

/-- The host operations before the call hand the operands over. -/
theorem reads : Reads m c (args m c) where
  x n d := by
    unfold V V0
    simp only [List.flatten_cons, List.flatten_nil, List.append_nil]
    entry_read
    pointwise
    rfl
  g d := by
    unfold V V0
    simp only [List.flatten_cons, List.flatten_nil, List.append_nil]
    entry_read
    pointwise
    rfl
  w d j := by
    unfold V V0
    simp only [List.flatten_cons, List.flatten_nil, List.append_nil]
    entry_read
    pointwise
    by_cases h : j.val < 1088
    · refine (dif_pos h).trans (Eq.trans ?_ (dif_pos h).symm)
      rfl
    by_cases h' : j.val < 1120
    · refine (dif_neg h).trans ((dif_pos (by omega)).trans (Eq.trans ?_ ((dif_neg h).trans (dif_pos h')).symm))
      exact congrArg (fun j => m (c.tc.loc main_arg2) (ix2 d j)) (Fin.ext (by simp only []; omega))
    · refine (dif_neg h).trans ((dif_neg (by omega)).trans (Eq.trans ?_ ((dif_neg h).trans (dif_neg h')).symm))
      exact congrArg (fun j => m (c.tc.loc main_arg2) (ix2 d j)) (Fin.ext (by simp only []; omega))
  gq j := by
    unfold V V0
    simp only [List.flatten_cons, List.flatten_nil, List.append_nil]
    entry_read
    pointwise
    rfl
  gkv j := by
    unfold V V0
    simp only [List.flatten_cons, List.flatten_nil, List.append_nil]
    entry_read
    pointwise
    rfl
  tab s e := by
    unfold V V0
    simp only [List.flatten_cons, List.flatten_nil, List.append_nil]
    entry_read
    pointwise
    by_cases h : e.val < 32
    · refine (dif_pos (by omega)).trans ((dif_pos h).trans (Eq.trans ?_ (dif_pos h).symm))
      after_results_simp
      pointwise
      rfl
    by_cases h' : e.val < 64
    · refine (dif_pos h').trans ((dif_neg h).trans (Eq.trans ?_ ((dif_neg h).trans (dif_pos h')).symm))
      after_results_simp
      pointwise
      rfl
    by_cases h'' : e.val < 96
    · refine (dif_neg h').trans ((dif_pos (by omega)).trans (Eq.trans ?_ ((dif_neg h).trans ((dif_neg h').trans (dif_pos h''))).symm))
      after_results_simp
      pointwise
      rfl
    · refine (dif_neg h').trans ((dif_neg (by omega)).trans (Eq.trans ?_ ((dif_neg h).trans ((dif_neg h').trans (dif_neg h''))).symm))
      after_results_simp
      pointwise
      rfl

/-- After the call each array holds what the pipeline leaves in it. -/
theorem arr_held (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) (fun w => (dats m 0 c).arrAt w cfg0.N) w

/-- The first result after the host operations that follow the call. -/
theorem cq_value (b : Fin 4) (s : Fin 8192) (j : Fin 512) :
    (Pipeline.afterTail₀ cfgs (dats m) 0 (V0 m) [hostOps1] c main_v31 (ix3 b s j) : EReal) = (args m c).cq (prow b s) j := by
  unfold Pipeline.afterTail₀
  simp only [List.flatten_cons, List.flatten_nil, List.append_nil]
  entry_read
  pointwise
  refine (congrFun (arr_held m c 6) _).trans ?_
  rw [show (⟨b.val * 8192 + s.val, by omega⟩ : Fin 32768) = prow b s from Fin.ext (by simp only [prow]; omega)]
  exact cq_array (reads m c) _ j

/-- The second result. -/
theorem ckv_value (b : Fin 4) (s : Fin 8192) (j : Fin 512) :
    (Pipeline.afterTail₀ cfgs (dats m) 0 (V0 m) [hostOps1] c main_v32 (ix3 b s j) : EReal) = (args m c).ckv (prow b s) j := by
  unfold Pipeline.afterTail₀
  simp only [List.flatten_cons, List.flatten_nil, List.append_nil]
  entry_read
  pointwise
  refine (congrFun (arr_held m c 7) _).trans ?_
  rw [show (⟨b.val * 8192 + s.val, by omega⟩ : Fin 32768) = prow b s from Fin.ext (by simp only [prow]; omega)]
  exact ckv_array (reads m c) _ j

/-- The third result. -/
theorem kpe_value (b : Fin 4) (s : Fin 8192) (e : Fin 64) :
    (Pipeline.afterTail₀ cfgs (dats m) 0 (V0 m) [hostOps1] c main_v33 (ix3 b s e) : EReal) = (args m c).kpe (prow b s) e := by
  unfold Pipeline.afterTail₀
  simp only [List.flatten_cons, List.flatten_nil, List.append_nil]
  entry_read
  pointwise
  refine (congrFun (arr_held m c 9) _).trans ?_
  rw [show (⟨b.val * 8192 + s.val, by omega⟩ : Fin 32768) = prow b s from Fin.ext (by simp only [prow]; omega)]
  exact kpe_array (reads m c) _ e

end Cert.Kernel3Ideal.Mla
-- ==== Proof.MlaRef.lean ====
module

public import proofs.«01_k».proof.Proof.MlaHost

@[expose] public section

set_option maxRecDepth 16384

noncomputable section

namespace Cert.Reference3Ideal.Mla
open Idealize.ShloMosaic Cert.Reference3Ideal Cert.Reference3Ideal.Gen Cert.Reference3Ideal.Read
open Idealize.ShloMosaic.Pointwise Cert.Norm
open Cert.Kernel3Ideal.Mla (Data pOf sOf prow cosT sinT)

variable (x0 : FVec Ideal S4x8192x2048 .f32) (x1 : FVec Ideal S2048 .f32) (x2 : FVec Ideal S2048x1088 .f32) (x3 x4 : FVec Ideal S512 .f32)

/-- The operands of the reference. -/
def ops : Data := Cert.Kernel3Ideal.Mla.ops (fun b s d => x0 (ix3 b s d)) (fun d => x1 (ix1 d)) (fun d j => x2 (ix2 d j))
  (fun j => x3 (ix1 j)) (fun j => x4 (ix1 j))

/-- A row's prompt. -/
theorem pOf_prow (b : Fin 4) (s : Fin 8192) : pOf (prow b s) = b := Fin.ext (by simp only [pOf, prow]; omega)
/-- A row's place in its prompt. -/
theorem sOf_prow (b : Fin 4) (s : Fin 8192) : sOf (prow b s) = s := Fin.ext (by simp only [sOf, prow]; omega)

/-- The input's row. -/
theorem x_prow (b : Fin 4) (s : Fin 8192) : (ops x0 x1 x2 x3 x4).x (prow b s) = fun d => x0 (ix3 b s d) := by
  show (fun d => x0 (ix3 (pOf (prow b s)) (sOf (prow b s)) d)) = _
  rw [pOf_prow, sOf_prow]

/-- The normalized input. -/
theorem norm_ref (i : S4x8192x2048.Idx) :
    (val_main_v13 (F := Ideal) x0 x1 i : EReal) = rms 0x45000000#32 (fun d => x0 (ix3 (i 0) (i 1) d)) (fun d => x1 (ix1 d)) (i 2) := by
  have hz : (val_main_cst (F := Ideal) (Shape.Idx.first h_S_) : EReal) = 0 := by
    show (Ideal.ofBits .f32 0x00000000#32 : EReal) = 0
    simp [Ideal.ofBits, Ideal.ieee]
  have ms : ∀ j, (val_main_v2 (F := Ideal) x0 j : EReal)
      = dot (fun d : Fin 2048 => x0 (ix3 (j 0) (j 1) d)) (fun d => x0 (ix3 (j 0) (j 1) d)) := fun j => by
    rw [val_main_v2_apply, hz, zero_add]
    refine Finset.sum_congr (M := EReal) rfl fun (k : Fin 2048) _ => ?_
    rw [val_main_v1_apply]
    have e : idx_main_v2 j k = ix3 (j 0) (j 1) k := funext fun a => match a with
      | 0 => rfl
      | 1 => rfl
      | 2 => rfl
    rw [e]
    rfl
  have eg : (val_main_v12 (F := Ideal) x1 i : EReal) = x1 (ix1 (i 2)) := by
    rw [val_main_v12_apply, val_main_v11_apply]
    exact congrArg x1 (funext fun a => match a with | 0 => rfl)
  have ex : x0 i = x0 (ix3 (i 0) (i 1) (i 2)) := congrArg x0 (funext fun a => match a with
      | 0 => rfl
      | 1 => rfl
      | 2 => rfl)
  rw [val_main_v13_apply, val_main_v10_apply, val_main_v9_apply, val_main_v8_apply, val_main_v7_apply, val_main_v6_apply,
    val_main_cst_1_apply, val_main_v5_apply, val_main_v4_apply, val_main_cst_0_apply, val_main_v3_apply, ms, eg, ex]
  rfl

/-- The projection, at the column of the reference's weights that a column of the call's weights repeats. -/
theorem proj_ref (i : S4x8192x1088.Idx) (j : Fin 1152)
    (h : j.val = (i 2).val ∨ (1088 ≤ j.val ∧ j.val < 1120 ∧ (i 2).val = j.val - 32) ∨ (1120 ≤ j.val ∧ (i 2).val = j.val - 96)) :
    (val_main_v14 (F := Ideal) x0 x1 x2 i : EReal) = (ops x0 x1 x2 x3 x4).a (prow (i 0) (i 1)) j := by
  have hi : (i 2).val < 1088 := (i 2).isLt
  have hw : ∀ d, (ops x0 x1 x2 x3 x4).w d j = x2 (ix2 d (i 2)) := fun d => by
    show (if h : j.val < 1088 then x2 (ix2 d ⟨j.val, h⟩) else if h' : j.val < 1120 then x2 (ix2 d ⟨j.val - 32, by omega⟩)
      else x2 (ix2 d ⟨j.val - 96, by omega⟩)) = _
    by_cases h1 : j.val < 1088
    · rw [dif_pos h1]
      exact congrArg (fun k => x2 (ix2 d k)) (Fin.ext (by show j.val = (i 2).val; omega))
    rw [dif_neg h1]
    by_cases h2 : j.val < 1120
    · rw [dif_pos h2]
      exact congrArg (fun k => x2 (ix2 d k)) (Fin.ext (by show j.val - 32 = (i 2).val; omega))
    · rw [dif_neg h2]
      exact congrArg (fun k => x2 (ix2 d k)) (Fin.ext (by show j.val - 96 = (i 2).val; omega))
  rw [val_main_v14_apply]
  refine Eq.trans (b := dot (fun k => val_main_v13 (F := Ideal) x0 x1 (lidx_main_v14 i k)) (fun k => x2 (ridx_main_v14 i k))) rfl
    (congrArg₂ dot (funext fun k => ?_) (funext fun k => ?_))
  · refine (norm_ref x0 x1 _).trans ?_
    exact congrArg (fun y => rms 0x45000000#32 y (fun d => x1 (ix1 d)) k) (x_prow x0 x1 x2 x3 x4 (i 0) (i 1)).symm
  · refine Eq.trans (b := x2 (ix2 k (i 2))) ?_ (hw k).symm
    exact congrArg x2 (funext fun a => match a with | 0 => rfl | 1 => rfl)

/-- The reference's first result. -/
theorem cq_ref (i : S4x8192x512.Idx) :
    (val_main_v80 (F := Ideal) x0 x1 x2 x3 i : EReal) = (ops x0 x1 x2 x3 x4).cq (prow (i 0) (i 1)) (i 2) := by
  have hz : (val_main_cst_2 (F := Ideal) (Shape.Idx.first h_S_) : EReal) = 0 := by
    show (Ideal.ofBits .f32 0x00000000#32 : EReal) = 0
    simp [Ideal.ofBits, Ideal.ieee]
  have col : ∀ k : S4x8192x512.Idx, (val_main_v15 (F := Ideal) x0 x1 x2 k : EReal)
      = (ops x0 x1 x2 x3 x4).a (prow (k 0) (k 1)) ⟨(k 2).val, by have h : (k 2).val < 512 := (k 2).isLt; omega⟩ := fun k => by
    rw [val_main_v15_apply]
    exact proj_ref x0 x1 x2 x3 x4 _ _ (Or.inl rfl)
  have ms : ∀ j, (val_main_v17 (F := Ideal) x0 x1 x2 j : EReal)
      = dot (fun k : Fin 512 => (ops x0 x1 x2 x3 x4).a (prow (j 0) (j 1)) ⟨k.val, by omega⟩)
          (fun k : Fin 512 => (ops x0 x1 x2 x3 x4).a (prow (j 0) (j 1)) ⟨k.val, by omega⟩) := fun j => by
    rw [val_main_v17_apply, hz, zero_add]
    refine Finset.sum_congr (M := EReal) rfl fun (k : Fin 512) _ => ?_
    rw [val_main_v16_apply]
    exact congrArg₂ (α := EReal) (β := EReal) (· * ·) (col _) (col _)
  have eg : (val_main_v27 (F := Ideal) x3 i : EReal) = x3 (ix1 (i 2)) := by
    rw [val_main_v27_apply, val_main_v26_apply]
    exact congrArg x3 (funext fun a => match a with | 0 => rfl)
  rw [val_main_v80_apply, val_main_v28_apply, val_main_v25_apply, val_main_v24_apply, val_main_v23_apply, val_main_v22_apply,
    val_main_v21_apply, val_main_cst_4_apply, val_main_v20_apply, val_main_v19_apply, val_main_cst_3_apply, val_main_v18_apply, ms, eg, col i]
  rfl

/-- The reference's second result. -/
theorem ckv_ref (i : S4x8192x512.Idx) :
    (val_main_v42 (F := Ideal) x0 x1 x2 x4 i : EReal) = (ops x0 x1 x2 x3 x4).ckv (prow (i 0) (i 1)) (i 2) := by
  have hz : (val_main_cst_5 (F := Ideal) (Shape.Idx.first h_S_) : EReal) = 0 := by
    show (Ideal.ofBits .f32 0x00000000#32 : EReal) = 0
    simp [Ideal.ofBits, Ideal.ieee]
  have col : ∀ k : S4x8192x512.Idx, (val_main_v29 (F := Ideal) x0 x1 x2 k : EReal)
      = (ops x0 x1 x2 x3 x4).a (prow (k 0) (k 1)) ⟨512 + (k 2).val, by have h : (k 2).val < 512 := (k 2).isLt; omega⟩ := fun k => by
    rw [val_main_v29_apply]
    exact proj_ref x0 x1 x2 x3 x4 _ _ (Or.inl rfl)
  have ms : ∀ j, (val_main_v31 (F := Ideal) x0 x1 x2 j : EReal)
      = dot (fun k : Fin 512 => (ops x0 x1 x2 x3 x4).a (prow (j 0) (j 1)) ⟨512 + k.val, by omega⟩)
          (fun k : Fin 512 => (ops x0 x1 x2 x3 x4).a (prow (j 0) (j 1)) ⟨512 + k.val, by omega⟩) := fun j => by
    rw [val_main_v31_apply, hz, zero_add]
    refine Finset.sum_congr (M := EReal) rfl fun (k : Fin 512) _ => ?_
    rw [val_main_v30_apply]
    exact congrArg₂ (α := EReal) (β := EReal) (· * ·) (col _) (col _)
  have eg : (val_main_v41 (F := Ideal) x4 i : EReal) = x4 (ix1 (i 2)) := by
    rw [val_main_v41_apply, val_main_v40_apply]
    exact congrArg x4 (funext fun a => match a with | 0 => rfl)
  rw [val_main_v42_apply, val_main_v39_apply, val_main_v38_apply, val_main_v37_apply, val_main_v36_apply,
    val_main_v35_apply, val_main_cst_7_apply, val_main_v34_apply, val_main_v33_apply, val_main_cst_6_apply, val_main_v32_apply, ms, eg, col i]
  rfl

/-- A product with a sine of the other sign is the product taken away. -/
theorem sub_rot (a b c s : EReal) : a * c - b * s = a * c + b * -s := by
  rw [mul_neg, sub_eq_add_neg]

/-- The first half of a rotated key. -/
theorem rot1_ref (b : Fin 4) (s : Fin 8192) (k : Fin 32) :
    (val_main_v69 (F := Ideal) x0 x1 x2 (ix4 b s 0 k) : EReal) = (ops x0 x1 x2 x3 x4).kpe (prow b s) ⟨k.val, by omega⟩ := by
  have c : (val_main_v64 (F := Ideal) (ix4 b s 0 k) : EReal) = cosT s k := by
    rw [val_main_v64_apply, val_main_v63_apply, val_main_v58_apply]
    exact congrArg (val_main_v57 (F := Ideal)) (funext fun a => match a with | 0 => rfl | 1 => rfl)
  have n : (val_main_v67 (F := Ideal) (ix4 b s 0 k) : EReal) = sinT s k := by
    rw [val_main_v67_apply, val_main_v66_apply, val_main_v60_apply]
    exact congrArg (val_main_v59 (F := Ideal)) (funext fun a => match a with | 0 => rfl | 1 => rfl)
  have u : (val_main_v61 (F := Ideal) x0 x1 x2 (ix4 b s 0 k) : EReal) = (ops x0 x1 x2 x3 x4).a (prow b s) ⟨1024 + k.val, by omega⟩ := by
    rw [val_main_v61_apply, val_main_v44_apply, val_main_v43_apply]
    exact proj_ref x0 x1 x2 x3 x4 _ ⟨1024 + k.val, by omega⟩ (Or.inl rfl)
  have v : (val_main_v62 (F := Ideal) x0 x1 x2 (ix4 b s 0 k) : EReal) = (ops x0 x1 x2 x3 x4).a (prow b s) ⟨1088 + k.val, by omega⟩ := by
    rw [val_main_v62_apply, val_main_v44_apply, val_main_v43_apply]
    exact proj_ref x0 x1 x2 x3 x4 _ ⟨1088 + k.val, by omega⟩
      (Or.inr (Or.inl ⟨by show 1088 ≤ 1088 + k.val; omega, by show 1088 + k.val < 1120; omega, by show 1024 + (32 + k.val) = 1088 + k.val - 32; omega⟩))
  have t1 : (ops x0 x1 x2 x3 x4).tab (sOf (prow b s)) ⟨k.val, by omega⟩ = cosT s k := by
    rw [sOf_prow]
    exact dif_pos k.isLt
  have t2 : (ops x0 x1 x2 x3 x4).tab (sOf (prow b s)) ⟨64 + k.val, by omega⟩ = -(sinT s k) := by
    rw [sOf_prow]
    refine (dif_neg (by show ¬ 64 + k.val < 32; omega)).trans ((dif_neg (by show ¬ 64 + k.val < 64; omega)).trans
      ((dif_pos (by show 64 + k.val < 96; omega)).trans ?_))
    exact congrArg (fun k => -(sinT s k)) (Fin.ext (by show 64 + k.val - 64 = k.val; omega))
  rw [val_main_v69_apply, val_main_v65_apply, val_main_v68_apply, c, n, u, v]
  refine (sub_rot _ _ _ _).trans ?_
  rw [← t1, ← t2]
  rfl

/-- The second half of a rotated key. -/
theorem rot2_ref (b : Fin 4) (s : Fin 8192) (k : Fin 32) :
    (val_main_v76 (F := Ideal) x0 x1 x2 (ix4 b s 0 k) : EReal) = (ops x0 x1 x2 x3 x4).kpe (prow b s) ⟨32 + k.val, by omega⟩ := by
  have c : (val_main_v74 (F := Ideal) (ix4 b s 0 k) : EReal) = cosT s k := by
    rw [val_main_v74_apply, val_main_v73_apply, val_main_v58_apply]
    exact congrArg (val_main_v57 (F := Ideal)) (funext fun a => match a with | 0 => rfl | 1 => rfl)
  have n : (val_main_v71 (F := Ideal) (ix4 b s 0 k) : EReal) = sinT s k := by
    rw [val_main_v71_apply, val_main_v70_apply, val_main_v60_apply]
    exact congrArg (val_main_v59 (F := Ideal)) (funext fun a => match a with | 0 => rfl | 1 => rfl)
  have u : (val_main_v61 (F := Ideal) x0 x1 x2 (ix4 b s 0 k) : EReal) = (ops x0 x1 x2 x3 x4).a (prow b s) ⟨1120 + k.val, by omega⟩ := by
    rw [val_main_v61_apply, val_main_v44_apply, val_main_v43_apply]
    exact proj_ref x0 x1 x2 x3 x4 _ ⟨1120 + k.val, by omega⟩
      (Or.inr (Or.inr ⟨by show 1120 ≤ 1120 + k.val; omega, by show 1024 + k.val = 1120 + k.val - 96; omega⟩))
  have v : (val_main_v62 (F := Ideal) x0 x1 x2 (ix4 b s 0 k) : EReal) = (ops x0 x1 x2 x3 x4).a (prow b s) ⟨1056 + k.val, by omega⟩ := by
    rw [val_main_v62_apply, val_main_v44_apply, val_main_v43_apply]
    exact proj_ref x0 x1 x2 x3 x4 _ ⟨1056 + k.val, by omega⟩ (Or.inl (by show 1056 + k.val = 1024 + (32 + k.val); omega))
  have t1 : (ops x0 x1 x2 x3 x4).tab (sOf (prow b s)) ⟨32 + k.val, by omega⟩ = cosT s k := by
    rw [sOf_prow]
    refine (dif_neg (by show ¬ 32 + k.val < 32; omega)).trans ((dif_pos (by show 32 + k.val < 64; omega)).trans ?_)
    exact congrArg (fun k => cosT s k) (Fin.ext (by show 32 + k.val - 32 = k.val; omega))
  have t2 : (ops x0 x1 x2 x3 x4).tab (sOf (prow b s)) ⟨96 + k.val, by omega⟩ = sinT s k := by
    rw [sOf_prow]
    refine (dif_neg (by show ¬ 96 + k.val < 32; omega)).trans ((dif_neg (by show ¬ 96 + k.val < 64; omega)).trans
      ((dif_neg (by show ¬ 96 + k.val < 96; omega)).trans ?_))
    exact congrArg (fun k => sinT s k) (Fin.ext (by show 96 + k.val - 96 = k.val; omega))
  rw [val_main_v76_apply, val_main_v72_apply, val_main_v75_apply, c, n, u, v]
  refine (add_comm (G := EReal) _ _).trans ?_
  rw [← t1, ← t2]
  have e1 : (⟨1024 + (32 + k.val), by omega⟩ : Fin 1152) = ⟨1056 + k.val, by omega⟩ := Fin.ext (by show 1024 + (32 + k.val) = 1056 + k.val; omega)
  have e2 : (⟨1088 + (32 + k.val), by omega⟩ : Fin 1152) = ⟨1120 + k.val, by omega⟩ := Fin.ext (by show 1088 + (32 + k.val) = 1120 + k.val; omega)
  have e3 : (⟨64 + (32 + k.val), by omega⟩ : Fin 128) = ⟨96 + k.val, by omega⟩ := Fin.ext (by show 64 + (32 + k.val) = 96 + k.val; omega)
  unfold Data.kpe
  show _ = (ops x0 x1 x2 x3 x4).a (prow b s) ⟨1024 + (32 + k.val), by omega⟩ * (ops x0 x1 x2 x3 x4).tab (sOf (prow b s)) ⟨32 + k.val, by omega⟩
    + (ops x0 x1 x2 x3 x4).a (prow b s) ⟨1088 + (32 + k.val), by omega⟩ * (ops x0 x1 x2 x3 x4).tab (sOf (prow b s)) ⟨64 + (32 + k.val), by omega⟩
  rw [e1, e2, e3]
  rfl

/-- The reference's third result. -/
theorem kpe_ref (i : S4x8192x64.Idx) :
    (val_main_v79 (F := Ideal) x0 x1 x2 i : EReal) = (ops x0 x1 x2 x3 x4).kpe (prow (i 0) (i 1)) (i 2) := by
  have h0 : (i 0).val < 4 := (i 0).isLt
  have h1 : (i 1).val < 8192 := (i 1).isLt
  have h2 : (i 2).val < 64 := (i 2).isLt
  have r1 := rot1_ref x0 x1 x2 x3 x4 (i 0) (i 1)
  have r2 := rot2_ref x0 x1 x2 x3 x4 (i 0) (i 1)
  rw [val_main_v79_apply]
  have e : idx_main_v79 i = ix4 (i 0) (i 1) 0 (i 2) := funext fun a => match a with
    | 0 => Fin.ext (by show (((i 0).val * 8192 + (i 1).val) * 64 + (i 2).val) / 524288 = (i 0).val; omega)
    | 1 => Fin.ext (by show (((i 0).val * 8192 + (i 1).val) * 64 + (i 2).val) / 64 % 8192 = (i 1).val; omega)
    | 2 => rfl
    | 3 => Fin.ext (by show (((i 0).val * 8192 + (i 1).val) * 64 + (i 2).val) % 64 = (i 2).val; omega)
  rw [e]
  unfold val_main_v78
  generalize val_main_v69 (F := Ideal) x0 x1 x2 = y1 at r1 ⊢
  generalize val_main_v76 (F := Ideal) x0 x1 x2 = y2 at r2 ⊢
  generalize val_main_v77 (F := Ideal) x0 x1 x2 = y3
  pointwise
  by_cases h : (i 2).val < 32
  · refine (dif_pos h).trans ?_
    exact r1 ⟨(i 2).val, h⟩
  · refine (dif_neg h).trans ((dif_pos (by omega)).trans ?_)
    refine (r2 ⟨(i 2).val - 32, by omega⟩).trans ?_
    exact congrArg (fun k => (ops x0 x1 x2 x3 x4).kpe (prow (i 0) (i 1)) k) (Fin.ext (by show 32 + ((i 2).val - 32) = (i 2).val; omega))

end Cert.Reference3Ideal.Mla
-- ==== Proof.MlaSame.lean ====
module

public import proofs.«01_k».proof.Proof.MlaRef
public import proofs.«01_k».proof.Proof.Gen.Reference3Ideal.Run
public import proofs.«01_k».proof.Defs
public import proofs.«01_k».proof.Proof.Gen.Kernel3
public import proofs.«01_k».proof.Proof.Gen.Kernel3.Frame

@[expose] public section

set_option maxRecDepth 16384
noncomputable section

namespace Cert.Kernel3Ideal.Mla
open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg)

/-- The kernel ends with its three results as the host operations after the call leave them, and its arguments unchanged. -/
theorem run_results : θ_run defs (onTc (τ := τ) (main (F := Ideal))) ⟨m, fun _ => 0, ρ⟩ (fun r => ∀ c : Dev nD,
      r.2.mem ((c.tc : Thread nD τ).loc main_v31) = Pipeline.afterTail₀ cfgs (dats m) 0 (V0 m) [hostOps1] c main_v31
      ∧ r.2.mem ((c.tc : Thread nD τ).loc main_v32) = Pipeline.afterTail₀ cfgs (dats m) 0 (V0 m) [hostOps1] c main_v32
      ∧ r.2.mem ((c.tc : Thread nD τ).loc main_v33) = Pipeline.afterTail₀ cfgs (dats m) 0 (V0 m) [hostOps1] c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).2 main_v31 (Pipeline.mem_restRefs_of main_v31 (by decide) (by decide)),
    (h.1 c).2 main_v32 (Pipeline.mem_restRefs_of main_v32 (by decide) (by decide)),
    (h.1 c).2 main_v33 (Pipeline.mem_restRefs_of main_v33 (by decide) (by decide)), h.2 c⟩) (θ_run_and (run_main m ρ) (unchanged m ρ))

end Cert.Kernel3Ideal.Mla

namespace Cert.Same.Mla
open Idealize.ShloMosaic Idealize.ShloMosaic.TcCoe Idealize.SL.Sem

/-- The reference's frame. -/
theorem ref_frame : @Cert.quiescent_Reference3Ideal Cert.Reference3Ideal.Gen.facts := fun m g _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m g)

section
open Cert.Kernel3Ideal.Gen
variable (m : (ℓ : Loc Cert.Kernel3Ideal.nD Cert.Kernel3Ideal.τ Cert.Kernel3Ideal.sig) → Buf (Elt Ideal) ℓ) (c : Dev Cert.Kernel3Ideal.nD)

/-- The first results agree. -/
theorem cq_same :
    Cert.Reference3Ideal.Read.val_main_v80 (F := Ideal) (m (c.tc.loc Cert.Kernel3Ideal.main_arg0)) (m (c.tc.loc Cert.Kernel3Ideal.main_arg1))
        (m (c.tc.loc Cert.Kernel3Ideal.main_arg2)) (m (c.tc.loc Cert.Kernel3Ideal.main_arg3))
      = Pipeline.afterTail₀ Cert.Kernel3Ideal.cfgs (dats m) 0 (V0 m) [hostOps1] c Cert.Kernel3Ideal.main_v31 := by
  funext i
  refine (Cert.Reference3Ideal.Mla.cq_ref _ _ _ _ (m (c.tc.loc Cert.Kernel3Ideal.main_arg4)) i).trans (Eq.trans ?_
    ((Cert.Kernel3Ideal.Mla.cq_value m c (i 0) (i 1) (i 2)).symm.trans
      (congrArg (Pipeline.afterTail₀ Cert.Kernel3Ideal.cfgs (dats m) 0 (V0 m) [hostOps1] c Cert.Kernel3Ideal.main_v31)
        (funext fun a => match a with
          | 0 => rfl
          | 1 => rfl
          | 2 => rfl))))
  rfl

/-- The second results agree. -/
theorem ckv_same :
    Cert.Reference3Ideal.Read.val_main_v42 (F := Ideal) (m (c.tc.loc Cert.Kernel3Ideal.main_arg0)) (m (c.tc.loc Cert.Kernel3Ideal.main_arg1))
        (m (c.tc.loc Cert.Kernel3Ideal.main_arg2)) (m (c.tc.loc Cert.Kernel3Ideal.main_arg4))
      = Pipeline.afterTail₀ Cert.Kernel3Ideal.cfgs (dats m) 0 (V0 m) [hostOps1] c Cert.Kernel3Ideal.main_v32 := by
  funext i
  refine (Cert.Reference3Ideal.Mla.ckv_ref _ _ _ (m (c.tc.loc Cert.Kernel3Ideal.main_arg3)) _ i).trans (Eq.trans ?_
    ((Cert.Kernel3Ideal.Mla.ckv_value m c (i 0) (i 1) (i 2)).symm.trans
      (congrArg (Pipeline.afterTail₀ Cert.Kernel3Ideal.cfgs (dats m) 0 (V0 m) [hostOps1] c Cert.Kernel3Ideal.main_v32)
        (funext fun a => match a with
          | 0 => rfl
          | 1 => rfl
          | 2 => rfl))))
  rfl

/-- The third results agree. -/
theorem kpe_same :
    Cert.Reference3Ideal.Read.val_main_v79 (F := Ideal) (m (c.tc.loc Cert.Kernel3Ideal.main_arg0)) (m (c.tc.loc Cert.Kernel3Ideal.main_arg1))
        (m (c.tc.loc Cert.Kernel3Ideal.main_arg2))
      = Pipeline.afterTail₀ Cert.Kernel3Ideal.cfgs (dats m) 0 (V0 m) [hostOps1] c Cert.Kernel3Ideal.main_v33 := by
  funext i
  refine (Cert.Reference3Ideal.Mla.kpe_ref _ _ _ (m (c.tc.loc Cert.Kernel3Ideal.main_arg3)) (m (c.tc.loc Cert.Kernel3Ideal.main_arg4)) i).trans (Eq.trans ?_
    ((Cert.Kernel3Ideal.Mla.kpe_value m c (i 0) (i 1) (i 2)).symm.trans
      (congrArg (Pipeline.afterTail₀ Cert.Kernel3Ideal.cfgs (dats m) 0 (V0 m) [hostOps1] c Cert.Kernel3Ideal.main_v33)
        (funext fun a => match a with
          | 0 => rfl
          | 1 => rfl
          | 2 => rfl))))
  rfl

end

/-- For all arguments the kernel and the reference end with the same three results. -/
theorem equal : @Cert.algebraic_Kernel3Ideal_Reference3Ideal Cert.Kernel3Ideal.Gen.facts Cert.Reference3Ideal.Gen.facts := fun m g m' g' _ ha =>
  ⟨fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v31,
   fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v32,
   fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v33,
   Cert.Kernel3Ideal.Mla.run_results m g,
   (θ_run Cert.Reference3Ideal.defs _ _).mono
    (fun r h c => by
      obtain ⟨e0, e1, e2, e3, e4⟩ := ha c
      refine ⟨(h c).1.trans ((Cert.Reference3Ideal.Read.val_main_v80_eq _ _ _ _).trans ?_), (h c).2.1.trans ((Cert.Reference3Ideal.Read.val_main_v42_eq _ _ _ _).trans ?_),
        (h c).2.2.1.trans ((Cert.Reference3Ideal.Read.val_main_v79_eq m' c).trans ?_), (h c).2.2.2⟩
      · rw [e0, e1, e2, e3]
        exact cq_same m c
      · rw [e0, e1, e2, e4]
        exact ckv_same m c
      · rw [e0, e1, e2]
        exact kpe_same m c)
    (Cert.Reference3Ideal.Value.run (F := Ideal) m' g')⟩

end Cert.Same.Mla
-- ==== Proof.MixArr.lean ====
module

public import proofs.«01_k».proof.Proof.Norm
public import proofs.«01_k».proof.Proof.Gen.Kernel4Ideal.Frame
public import proofs.«01_k».proof.Proof.Gen.Kernel4Ideal.Skeleton
public import Idealize.ShloMosaic.Lib.Pipeline.ValueKit
public import Idealize.ShloMosaic.Lib.VecWindow
public import Idealize.ShloMosaic.Lib.Pointwise
public import Idealize.ShloMosaic.Lib.KernelVsHost

@[expose] public section

set_option maxRecDepth 16384

noncomputable section

namespace Cert.Kernel4Ideal.Mix
open Idealize.ShloMosaic Idealize.SL.Sem Cert.Kernel4Ideal Cert.Kernel4Ideal.Gen
open Idealize.ShloMosaic.Pointwise Cert.Norm

/-- Which block of its array window 0 holds at a point. -/
theorem idx0 : ∀ t : Fin cfg0.N, win0_0.index t = ![t.val, 0] := (by decide +kernel : ∀ t : Fin grid0.N, _)
/-- Which block of its array window 1 holds at a point. -/
theorem idx1 : ∀ t : Fin cfg0.N, win0_1.index t = ![0, 0] := (by decide +kernel : ∀ t : Fin grid0.N, _)
/-- Which block of its array window 2 holds at a point. -/
theorem idx2 : ∀ t : Fin cfg0.N, win0_2.index t = ![t.val, 0] := (by decide +kernel : ∀ t : Fin grid0.N, _)
/-- Which block of its array window 3 holds at a point. -/
theorem idx3 : ∀ t : Fin cfg0.N, win0_3.index t = ![0, 0] := (by decide +kernel : ∀ t : Fin grid0.N, _)
/-- Which block of its array window 4 holds at a point. -/
theorem idx4 : ∀ t : Fin cfg0.N, win0_4.index t = ![0, 0] := (by decide +kernel : ∀ t : Fin grid0.N, _)
/-- Which block of its array window 5 holds at a point. -/
theorem idx5 : ∀ t : Fin cfg0.N, win0_5.index t = ![t.val, 0] := (by decide +kernel : ∀ t : Fin grid0.N, _)
/-- Which block of its array window 6 holds at a point. -/
theorem idx6 : ∀ t : Fin cfg0.N, win0_6.index t = ![t.val, 0] := (by decide +kernel : ∀ t : Fin grid0.N, _)

/-- The call's operands, with the prompts' rows numbered together. -/
structure Data where
  o : Fin 32768 → Fin 2048 → EReal
  w : Fin 2048 → Fin 2048 → EReal
  x : Fin 32768 → Fin 2048 → EReal
  g1 : Fin 2048 → EReal
  g2 : Fin 2048 → EReal

namespace Data
variable (D : Data)

/-- The output projection. -/
def m (n : Fin 32768) (d : Fin 2048) : EReal := dot (D.o n) (fun k => D.w k d)
/-- The residual after the attention. -/
def x1 (n : Fin 32768) (d : Fin 2048) : EReal := D.x n d + rms 0x45000000#32 (D.m n) D.g1 d
/-- Its normalization. -/
def h2 (n : Fin 32768) (d : Fin 2048) : EReal := rms 0x45000000#32 (D.x1 n) D.g2 d

end Data

/-- A block of the first result. -/
theorem x1_apply (x0 : Vec Ideal S256x2048 .bf16) (x1 : Vec Ideal S2048x2048 .bf16) (x2 : Vec Ideal S256x2048 .f32) (x3 : Vec Ideal S1x2048 .f32) (a : Fin 256) (d : Fin 2048) :
    (k0_pay1 (F := Ideal) x0 x1 x2 x3 (ix2 a d) : EReal)
      = x2 (ix2 a d) + rms 0x45000000#32 (fun e : Fin 2048 => dot (fun k : Fin 2048 => x0 (ix2 a k)) (fun k => x1 (ix2 k e))) (fun d => x3 (ix2 0 d)) d := by
  pointwise [k0_pay1]
  rfl

/-- A block of the second result. -/
theorem h2_apply (x0 : Vec Ideal S256x2048 .bf16) (x1 : Vec Ideal S2048x2048 .bf16) (x2 : Vec Ideal S256x2048 .f32) (x3 x4 : Vec Ideal S1x2048 .f32) (a : Fin 256) (d : Fin 2048) :
    (k0_pay2 (F := Ideal) x0 x1 x2 x3 x4 (ix2 a d) : EReal)
      = rms 0x45000000#32 (fun e : Fin 2048 => (k0_pay1 (F := Ideal) x0 x1 x2 x3 (ix2 a e) : EReal)) (fun d => x4 (ix2 0 d)) d := by
  unfold k0_pay2
  generalize k0_pay1 (F := Ideal) x0 x1 x2 x3 = y
  pointwise
  rfl

/-- The block of the first result, from the call's blocks. -/
theorem out5_apply (x0 : Vec Ideal S256x2048 .bf16) (x1 : Vec Ideal S2048x2048 .bf16) (x2 : Vec Ideal S256x2048 .f32) (x3 x4 : Vec Ideal S1x2048 .f32) (a : Fin 256) (d : Fin 2048) :
    (out0_5 (F := Ideal) x0 x1 x2 x3 x4 (ix2 a d) : EReal) = k0_pay1 (F := Ideal) x0 x1 x2 x3 (ix2 a d) := by
  unfold out0_5
  frame_out

/-- The block of the second result, from the call's blocks. -/
theorem out6_apply (x0 : Vec Ideal S256x2048 .bf16) (x1 : Vec Ideal S2048x2048 .bf16) (x2 : Vec Ideal S256x2048 .f32) (x3 x4 : Vec Ideal S1x2048 .f32) (a : Fin 256) (d : Fin 2048) :
    (out0_6 (F := Ideal) x0 x1 x2 x3 x4 (ix2 a d) : EReal) = k0_pay2 (F := Ideal) x0 x1 x2 x3 x4 (ix2 a d) := by
  unfold out0_6
  frame_out

variable (m : (ℓ : Loc nD τ sig) → Buf (Elt Ideal) ℓ) (c : Dev nD)

/-- The arrays that the call reads hold the operands. -/
structure Reads (D : Data) : Prop where
  o : ∀ n k, (V m c main_v1 (ix2 n k) : EReal) = D.o n k
  w : ∀ k d, (V m c main_v2 (ix2 k d) : EReal) = D.w k d
  x : ∀ n d, (V m c main_v3 (ix2 n d) : EReal) = D.x n d
  g1 : ∀ d, (V m c main_v4 (ix2 0 d) : EReal) = D.g1 d
  g2 : ∀ d, (V m c main_v5 (ix2 0 d) : EReal) = D.g2 d

/-- There are 128 points. -/
theorem pt_lt (t : Fin cfg0.N) : t.val < 128 := t.isLt

/-- Row `a` of point `t`'s block of rows. -/
def brow (t : Fin cfg0.N) (a : Fin 256) : Fin 32768 := ⟨256 * t.val + a.val, by have := pt_lt t; omega⟩

section
variable {m c} {D : Data} (R : Reads m c D) (t : Fin cfg0.N)
include R

/-- The block of window 0, element by element. -/
theorem blk0 (a : Fin 256) (k : Fin 2048) : (iblk m c 0 t (ix2 a k) : EReal) = D.o (brow t a) k := by
  rw [← R.o]
  blk_simp [iblk]
  refine congrArg (V m c main_v1) ?_
  blk_ext [idx0, brow]
/-- The block of window 1, element by element. -/
theorem blk1 (k d : Fin 2048) : (iblk m c 1 t (ix2 k d) : EReal) = D.w k d := by
  rw [← R.w]
  blk_simp [iblk]
  refine congrArg (V m c main_v2) ?_
  blk_ext [idx1]
/-- The block of window 2, element by element. -/
theorem blk2 (a : Fin 256) (d : Fin 2048) : (iblk m c 2 t (ix2 a d) : EReal) = D.x (brow t a) d := by
  rw [← R.x]
  blk_simp [iblk]
  refine congrArg (V m c main_v3) ?_
  blk_ext [idx2, brow]
/-- The block of window 3, element by element. -/
theorem blk3 (d : Fin 2048) : (iblk m c 3 t (ix2 0 d) : EReal) = D.g1 d := by
  rw [← R.g1]
  blk_simp [iblk]
  refine congrArg (V m c main_v4) ?_
  blk_ext [idx3]
/-- The block of window 4, element by element. -/
theorem blk4 (d : Fin 2048) : (iblk m c 4 t (ix2 0 d) : EReal) = D.g2 d := by
  rw [← R.g2]
  blk_simp [iblk]
  refine congrArg (V m c main_v5) ?_
  blk_ext [idx4]

/-- The first result's block. -/
theorem x1_blk (a : Fin 256) (d : Fin 2048) :
    (k0_pay1 (F := Ideal) (iblk m c 0 t) (iblk m c 1 t) (iblk m c 2 t) (iblk m c 3 t) (ix2 a d) : EReal) = D.x1 (brow t a) d := by
  refine (x1_apply _ _ _ _ a d).trans ?_
  unfold Data.x1
  exact congrArg₂ (α := EReal) (β := EReal) (· + ·) (blk2 R t a d) (congrArg₂ (fun y g => rms 0x45000000#32 y g d)
    (funext fun e => congrArg₂ dot (funext fun k => blk0 R t a k) (funext fun k => blk1 R t k e)) (funext fun d => blk3 R t d))

end

section
variable {m c} {D : Data} (R : Reads m c D)
include R

/-- The array of the first result. -/
theorem x1_array (n : Fin 32768) (d : Fin 2048) : ((dats m 0 c).arrAt 5 cfg0.N (ix2 n d) : EReal) = D.x1 n d := by
  suffices h : ∀ i, ∀ n d, i = ix2 n d → ((dats m 0 c).arrAt 5 cfg0.N i : EReal) = D.x1 n d from h _ n d rfl
  refine (dats m 0 c).arrAt_forall_of_covers 5 (fun i v => ∀ n d, i = ix2 n d → (v : EReal) = D.x1 n d) (by decide +kernel) (fun t hf y => ?_)
  intro n d hi
  have h0 := congrArg Fin.val (congrFun hi 0)
  have h1 := congrArg Fin.val (congrFun hi 1)
  blk_simp [idx5] at h0 h1
  blk_simp
  rw [after0_5]
  have ht : t.val < 128 := t.isLt
  have hy : (y 0).val < 256 := (y 0).isLt
  obtain ⟨p, hp⟩ : ∃ p : Fin 256, (y 0).val = p.val := ⟨⟨(y 0).val, hy⟩, rfl⟩
  obtain rfl : n = brow t p := Fin.ext (by simp only [brow]; omega)
  have hy2 : y = ix2 p d := funext fun x => match x with
    | 0 => Fin.ext hp
    | 1 => Fin.ext (by show (y 1).val = d.val; omega)
  rw [hy2]
  refine (out5_apply _ _ _ _ _ _ _).trans ?_
  exact x1_blk R t _ _

/-- The array of the second result. -/
theorem h2_array (n : Fin 32768) (d : Fin 2048) : ((dats m 0 c).arrAt 6 cfg0.N (ix2 n d) : EReal) = D.h2 n d := by
  suffices h : ∀ i, ∀ n d, i = ix2 n d → ((dats m 0 c).arrAt 6 cfg0.N i : EReal) = D.h2 n d from h _ n d rfl
  refine (dats m 0 c).arrAt_forall_of_covers 6 (fun i v => ∀ n d, i = ix2 n d → (v : EReal) = D.h2 n d) (by decide +kernel) (fun t hf y => ?_)
  intro n d hi
  have h0 := congrArg Fin.val (congrFun hi 0)
  have h1 := congrArg Fin.val (congrFun hi 1)
  blk_simp [idx6] at h0 h1
  blk_simp
  rw [after0_6]
  have ht : t.val < 128 := t.isLt
  have hy : (y 0).val < 256 := (y 0).isLt
  obtain ⟨p, hp⟩ : ∃ p : Fin 256, (y 0).val = p.val := ⟨⟨(y 0).val, hy⟩, rfl⟩
  obtain rfl : n = brow t p := Fin.ext (by simp only [brow]; omega)
  have hy2 : y = ix2 p d := funext fun x => match x with
    | 0 => Fin.ext hp
    | 1 => Fin.ext (by show (y 1).val = d.val; omega)
  rw [hy2]
  refine (out6_apply _ _ _ _ _ _ _).trans ?_
  refine (h2_apply _ _ _ _ _ _ _).trans ?_
  unfold Data.h2
  exact congrArg₂ (fun y g => rms 0x45000000#32 y g d) (funext fun e => x1_blk R t _ _) (funext fun d => blk4 R t d)

end

/-- The prompt that row `n` belongs to. -/
def pOf (n : Fin 32768) : Fin 4 := ⟨n.val / 8192, by omega⟩
/-- Row `n`'s place in its prompt. -/
def sOf (n : Fin 32768) : Fin 8192 := ⟨n.val % 8192, by omega⟩
/-- The number of row `s` of prompt `b`. -/
def prow (b : Fin 4) (s : Fin 8192) : Fin 32768 := ⟨8192 * b.val + s.val, by omega⟩

/-- The operands as launched. -/
def args : Data where
  o n k := m (c.tc.loc main_arg0) (ix3 (pOf n) (sOf n) k)
  w k d := m (c.tc.loc main_arg1) (ix2 k d)
  x n d := m (c.tc.loc main_arg2) (ix3 (pOf n) (sOf n) d)
  g1 d := m (c.tc.loc main_arg3) (ix1 d)
  g2 d := m (c.tc.loc main_arg4) (ix1 d)

/-- The host operations before the call hand the operands over. -/
theorem reads : Reads m c (args m c) where
  o n d := by
    unfold V V0
    simp only [List.flatten_cons, List.flatten_nil, List.append_nil]
    entry_read
    pointwise
    rfl
  w d f := by
    unfold V V0
    simp only [List.flatten_cons, List.flatten_nil, List.append_nil]
    entry_read
    pointwise
    rfl
  x n d := by
    unfold V V0
    simp only [List.flatten_cons, List.flatten_nil, List.append_nil]
    entry_read
    pointwise
    rfl
  g1 d := by
    unfold V V0
    simp only [List.flatten_cons, List.flatten_nil, List.append_nil]
    entry_read
    pointwise
    rfl
  g2 d := by
    unfold V V0
    simp only [List.flatten_cons, List.flatten_nil, List.append_nil]
    entry_read
    pointwise
    rfl

/-- After the call each array holds what the pipeline leaves in it. -/
theorem arr_held (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) (fun w => (dats m 0 c).arrAt w cfg0.N) w

/-- The first result after the host operations that follow the call. -/
theorem x1_value (b : Fin 4) (s : Fin 8192) (d : Fin 2048) :
    (Pipeline.afterTail₀ cfgs (dats m) 0 (V0 m) [hostOps1] c main_v7 (ix3 b s d) : EReal) = (args m c).x1 (prow b s) d := by
  unfold Pipeline.afterTail₀
  simp only [List.flatten_cons, List.flatten_nil, List.append_nil]
  entry_read
  pointwise
  refine (congrFun (arr_held m c 5) _).trans ?_
  rw [show (⟨b.val * 8192 + s.val, by omega⟩ : Fin 32768) = prow b s from Fin.ext (by simp only [prow]; omega)]
  exact x1_array (reads m c) _ d

/-- The second result. -/
theorem h2_value (b : Fin 4) (s : Fin 8192) (d : Fin 2048) :
    (Pipeline.afterTail₀ cfgs (dats m) 0 (V0 m) [hostOps1] c main_v8 (ix3 b s d) : EReal) = (args m c).h2 (prow b s) d := by
  unfold Pipeline.afterTail₀
  simp only [List.flatten_cons, List.flatten_nil, List.append_nil]
  entry_read
  pointwise
  refine (congrFun (arr_held m c 6) _).trans ?_
  rw [show (⟨b.val * 8192 + s.val, by omega⟩ : Fin 32768) = prow b s from Fin.ext (by simp only [prow]; omega)]
  exact h2_array (reads m c) _ d

end Cert.Kernel4Ideal.Mix
-- ==== Proof.MixRef.lean ====
module

public import proofs.«01_k».proof.Proof.MixArr
public import proofs.«01_k».proof.Proof.Gen.Reference4Ideal.Read

@[expose] public section

set_option maxRecDepth 16384

noncomputable section

namespace Cert.Reference4Ideal.Mix
open Idealize.ShloMosaic Cert.Reference4Ideal Cert.Reference4Ideal.Gen Cert.Reference4Ideal.Read
open Idealize.ShloMosaic.Pointwise Cert.Norm
open Cert.Kernel4Ideal.Mix (Data pOf sOf prow)

variable (x0 : FVec Ideal S4x8192x2048 .f32) (x1 : FVec Ideal S2048x2048 .f32) (x2 : FVec Ideal S4x8192x2048 .f32) (x3 x4 : FVec Ideal S2048 .f32)

/-- The operands of the reference. -/
def ops : Data where
  o n k := x0 (ix3 (pOf n) (sOf n) k)
  w k d := x1 (ix2 k d)
  x n d := x2 (ix3 (pOf n) (sOf n) d)
  g1 d := x3 (ix1 d)
  g2 d := x4 (ix1 d)

/-- A row's prompt. -/
theorem pOf_prow (b : Fin 4) (s : Fin 8192) : pOf (prow b s) = b := Fin.ext (by simp only [pOf, prow]; omega)
/-- A row's place in its prompt. -/
theorem sOf_prow (b : Fin 4) (s : Fin 8192) : sOf (prow b s) = s := Fin.ext (by simp only [sOf, prow]; omega)

/-- The attention's output at a row. -/
theorem o_prow (b : Fin 4) (s : Fin 8192) (k : Fin 2048) : (ops x0 x1 x2 x3 x4).o (prow b s) k = x0 (ix3 b s k) := by
  show x0 (ix3 (pOf (prow b s)) (sOf (prow b s)) k) = _
  rw [pOf_prow, sOf_prow]

/-- The residual at a row. -/
theorem x_prow (b : Fin 4) (s : Fin 8192) (d : Fin 2048) : (ops x0 x1 x2 x3 x4).x (prow b s) d = x2 (ix3 b s d) := by
  show x2 (ix3 (pOf (prow b s)) (sOf (prow b s)) d) = _
  rw [pOf_prow, sOf_prow]

/-- The output projection. -/
theorem m_ref (i : S4x8192x2048.Idx) : (val_main_v0 (F := Ideal) x0 x1 i : EReal) = (ops x0 x1 x2 x3 x4).m (prow (i 0) (i 1)) (i 2) := by
  rw [val_main_v0_apply]
  refine Eq.trans (b := dot (fun k => x0 (lidx_main_v0 i k)) (fun k => x1 (ridx_main_v0 i k))) rfl
    (congrArg₂ dot (funext fun k => ?_) (funext fun k => congrArg x1 ?_))
  · refine Eq.trans ?_ (o_prow x0 x1 x2 x3 x4 (i 0) (i 1) k).symm
    exact congrArg x0 (funext fun a => match a with
      | 0 => rfl
      | 1 => rfl
      | 2 => rfl)
  · exact funext fun a => match a with
      | 0 => rfl
      | 1 => rfl

/-- The reference's first result. -/
theorem x1_ref (i : S4x8192x2048.Idx) :
    (val_main_v14 (F := Ideal) x0 x1 x2 x3 i : EReal) = (ops x0 x1 x2 x3 x4).x1 (prow (i 0) (i 1)) (i 2) := by
  have hz : (val_main_cst (F := Ideal) (Shape.Idx.first h_S_) : EReal) = 0 := by
    show (Ideal.ofBits .f32 0x00000000#32 : EReal) = 0
    simp [Ideal.ofBits, Ideal.ieee]
  have ms : ∀ j, (val_main_v2 (F := Ideal) x0 x1 j : EReal)
      = dot ((ops x0 x1 x2 x3 x4).m (prow (j 0) (j 1))) ((ops x0 x1 x2 x3 x4).m (prow (j 0) (j 1))) := fun j => by
    rw [val_main_v2_apply, hz, zero_add]
    refine Finset.sum_congr (M := EReal) rfl fun (k : Fin 2048) _ => ?_
    rw [val_main_v1_apply]
    exact congrArg₂ (α := EReal) (β := EReal) (· * ·) (m_ref x0 x1 x2 x3 x4 _) (m_ref x0 x1 x2 x3 x4 _)
  have eg : (val_main_v12 (F := Ideal) x3 i : EReal) = x3 (ix1 (i 2)) := by
    rw [val_main_v12_apply, val_main_v11_apply]
    exact congrArg x3 (funext fun a => match a with | 0 => rfl)
  have ex : x2 i = (ops x0 x1 x2 x3 x4).x (prow (i 0) (i 1)) (i 2) := by
    refine Eq.trans ?_ (x_prow x0 x1 x2 x3 x4 (i 0) (i 1) (i 2)).symm
    exact congrArg x2 (funext fun a => match a with
      | 0 => rfl
      | 1 => rfl
      | 2 => rfl)
  rw [val_main_v14_apply, val_main_v13_apply, val_main_v10_apply, val_main_v9_apply, val_main_v8_apply, val_main_v7_apply, val_main_v6_apply,
    val_main_cst_1_apply, val_main_v5_apply, val_main_v4_apply, val_main_cst_0_apply, val_main_v3_apply, ms, eg, ex, m_ref x0 x1 x2 x3 x4 i]
  rfl

/-- The reference's second result. -/
theorem h2_ref (i : S4x8192x2048.Idx) :
    (val_main_v28 (F := Ideal) x0 x1 x2 x3 x4 i : EReal) = (ops x0 x1 x2 x3 x4).h2 (prow (i 0) (i 1)) (i 2) := by
  have hz : (val_main_cst_2 (F := Ideal) (Shape.Idx.first h_S_) : EReal) = 0 := by
    show (Ideal.ofBits .f32 0x00000000#32 : EReal) = 0
    simp [Ideal.ofBits, Ideal.ieee]
  have ms : ∀ j, (val_main_v16 (F := Ideal) x0 x1 x2 x3 j : EReal)
      = dot ((ops x0 x1 x2 x3 x4).x1 (prow (j 0) (j 1))) ((ops x0 x1 x2 x3 x4).x1 (prow (j 0) (j 1))) := fun j => by
    rw [val_main_v16_apply, hz, zero_add]
    refine Finset.sum_congr (M := EReal) rfl fun (k : Fin 2048) _ => ?_
    rw [val_main_v15_apply]
    exact congrArg₂ (α := EReal) (β := EReal) (· * ·) (x1_ref x0 x1 x2 x3 x4 _) (x1_ref x0 x1 x2 x3 x4 _)
  have eg : (val_main_v26 (F := Ideal) x4 i : EReal) = x4 (ix1 (i 2)) := by
    rw [val_main_v26_apply, val_main_v25_apply]
    exact congrArg x4 (funext fun a => match a with | 0 => rfl)
  rw [val_main_v28_apply, val_main_v27_apply, val_main_v24_apply, val_main_v23_apply, val_main_v22_apply, val_main_v21_apply, val_main_v20_apply,
    val_main_cst_4_apply, val_main_v19_apply, val_main_v18_apply, val_main_cst_3_apply, val_main_v17_apply, ms, eg, x1_ref x0 x1 x2 x3 x4 i]
  rfl

end Cert.Reference4Ideal.Mix
-- ==== Proof.MixSame.lean ====
module

public import proofs.«01_k».proof.Proof.MixRef
public import proofs.«01_k».proof.Proof.Gen.Reference4Ideal.Run
public import proofs.«01_k».proof.Defs
public import proofs.«01_k».proof.Proof.Gen.Kernel4
public import proofs.«01_k».proof.Proof.Gen.Kernel4.Frame

@[expose] public section

set_option maxRecDepth 16384
noncomputable section

namespace Cert.Kernel4Ideal.Mix
open Idealize.ShloMosaic Idealize.ShloMosaic.TcCoe Idealize.SL.Sem Cert.Kernel4Ideal Cert.Kernel4Ideal.Gen

variable (m : (ℓ : Loc nD τ sig) → Buf (Elt Ideal) ℓ) (ρ : Dev nD → PrngReg)

/-- The kernel ends with its two results as the host operations after the call leave them, and its arguments unchanged. -/
theorem run_results : θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).2 main_v7 (Pipeline.mem_restRefs_of main_v7 (by decide) (by decide)),
    (h.1 c).2 main_v8 (Pipeline.mem_restRefs_of main_v8 (by decide) (by decide)), h.2 c⟩) (θ_run_and (run_main m ρ) (unchanged m ρ))

end Cert.Kernel4Ideal.Mix

namespace Cert.Same.Mix
open Idealize.ShloMosaic Idealize.ShloMosaic.TcCoe Idealize.SL.Sem

/-- The reference's frame. -/
theorem ref_frame : @Cert.quiescent_Reference4Ideal Cert.Reference4Ideal.Gen.facts := fun m g _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m g)

section
open Cert.Kernel4Ideal.Gen
variable (m : (ℓ : Loc Cert.Kernel4Ideal.nD Cert.Kernel4Ideal.τ Cert.Kernel4Ideal.sig) → Buf (Elt Ideal) ℓ) (c : Dev Cert.Kernel4Ideal.nD)

/-- The first results agree. -/
theorem x1_same :
    Cert.Reference4Ideal.Read.val_main_v14 (F := Ideal) (m (c.tc.loc Cert.Kernel4Ideal.main_arg0)) (m (c.tc.loc Cert.Kernel4Ideal.main_arg1))
        (m (c.tc.loc Cert.Kernel4Ideal.main_arg2)) (m (c.tc.loc Cert.Kernel4Ideal.main_arg3))
      = Pipeline.afterTail₀ Cert.Kernel4Ideal.cfgs (dats m) 0 (V0 m) [hostOps1] c Cert.Kernel4Ideal.main_v7 := by
  funext i
  refine (Cert.Reference4Ideal.Mix.x1_ref _ _ _ _ (m (c.tc.loc Cert.Kernel4Ideal.main_arg4)) i).trans (Eq.trans ?_
    ((Cert.Kernel4Ideal.Mix.x1_value m c (i 0) (i 1) (i 2)).symm.trans
      (congrArg (Pipeline.afterTail₀ Cert.Kernel4Ideal.cfgs (dats m) 0 (V0 m) [hostOps1] c Cert.Kernel4Ideal.main_v7)
        (funext fun a => match a with
          | 0 => rfl
          | 1 => rfl
          | 2 => rfl))))
  rfl

/-- The second results agree. -/
theorem h2_same :
    Cert.Reference4Ideal.Read.val_main_v28 (F := Ideal) (m (c.tc.loc Cert.Kernel4Ideal.main_arg0)) (m (c.tc.loc Cert.Kernel4Ideal.main_arg1))
        (m (c.tc.loc Cert.Kernel4Ideal.main_arg2)) (m (c.tc.loc Cert.Kernel4Ideal.main_arg3)) (m (c.tc.loc Cert.Kernel4Ideal.main_arg4))
      = Pipeline.afterTail₀ Cert.Kernel4Ideal.cfgs (dats m) 0 (V0 m) [hostOps1] c Cert.Kernel4Ideal.main_v8 := by
  funext i
  refine (Cert.Reference4Ideal.Mix.h2_ref _ _ _ _ _ i).trans (Eq.trans ?_
    ((Cert.Kernel4Ideal.Mix.h2_value m c (i 0) (i 1) (i 2)).symm.trans
      (congrArg (Pipeline.afterTail₀ Cert.Kernel4Ideal.cfgs (dats m) 0 (V0 m) [hostOps1] c Cert.Kernel4Ideal.main_v8)
        (funext fun a => match a with
          | 0 => rfl
          | 1 => rfl
          | 2 => rfl))))
  rfl

end

/-- For all arguments the kernel and the reference end with the same two results. -/
theorem equal : @Cert.algebraic_Kernel4Ideal_Reference4Ideal Cert.Kernel4Ideal.Gen.facts Cert.Reference4Ideal.Gen.facts := fun m g m' g' _ ha =>
  ⟨fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v7,
   fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v8,
   Cert.Kernel4Ideal.Mix.run_results m g,
   (θ_run Cert.Reference4Ideal.defs _ _).mono
    (fun r h c => by
      obtain ⟨e0, e1, e2, e3, e4⟩ := ha c
      refine ⟨(h c).1.trans ((Cert.Reference4Ideal.Read.val_main_v14_eq _ _ _ _).trans ?_), (h c).2.1.trans ((Cert.Reference4Ideal.Read.val_main_v28_eq m' c).trans ?_), (h c).2.2⟩
      · rw [e0, e1, e2, e3]
        exact x1_same m c
      · rw [e0, e1, e2, e3, e4]
        exact h2_same m c)
    (Cert.Reference4Ideal.Value.run (F := Ideal) m' g')⟩

end Cert.Same.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Run
public import proofs.«01_k».proof.Proof.Same
public import Idealize.ShloMosaic.Adequacy
public import Idealize.ShloMosaic.Init
public import proofs.«01_k».proof.Proof.FfnSame
public import proofs.«01_k».proof.Proof.MlaSame
public import proofs.«01_k».proof.Proof.MixSame

@[expose] public section

noncomputable section

set_option maxRecDepth 16384

namespace Cert.Proof

open Idealize.ShloMosaic Idealize.ShloMosaic.TcCoe Idealize.SL.Sem

/-- The reference leaves its arguments as they were; it declares no semaphore. -/
theorem ref_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The only constant replaced is the one named `mask`. -/
theorem kept : Cert.preserves_Kernel_KernelIdeal :=
  IdealRules.named_const.statement Cert.KernelIdeal.κ "mask" .f32 0xF149F2CA#32 ⊥ rfl

/-- The precondition says that the six arguments hold real numbers. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Same.Real6 m c :=
  have ⟨h0, h1, h2, h3, h4, h5⟩ := h c
  ⟨Cert.Same.real_of_finite _ _ h0, Cert.Same.real_of_finite _ _ h1, Cert.Same.real_of_finite _ _ h2,
   Cert.Same.real_of_finite _ _ h3, Cert.Same.real_of_finite _ _ h4, Cert.Same.real_of_finite _ _ h5⟩

/-- For finite arguments the kernel and the reference end with the same result. -/
theorem equal : Cert.algebraic_KernelIdeal_ReferenceIdeal_pre_finite := fun m g m' g' hp ha =>
  ⟨fun c => Cert.KernelIdeal.Gen.W7 m g c (Proc.devRef .tc Cert.KernelIdeal.main_v23),
   Cert.KernelIdeal.Att.run m g,
   (θ_run Cert.ReferenceIdeal.defs _ _).mono
    (fun r h c => ⟨by
      obtain ⟨e0, e1, e2, e3, e4, e5⟩ := ha c
      refine (h c).1.trans ((Cert.ReferenceIdeal.Read.val_main_v36_eq m' c).trans ?_)
      rw [e0, e1, e2, e3, e4, e5]
      exact (Cert.Same.same m g c (reals m hp c)).symm, (h c).2⟩)
    (Cert.ReferenceIdeal.Value.run (F := Ideal) m' g')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Same.preFacts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  Cert.Same.kernel_frame, Cert.Same.ideal_frame, Cert.Same.ref_frame,
  fun m ρ _ => Cert.Kernel3.Gen.frame m ρ, fun m ρ _ => Cert.Kernel3Ideal.Gen.frame m ρ, Cert.Same.Mla.ref_frame,
  fun m ρ _ => Cert.Kernel4.Gen.frame m ρ, fun m ρ _ => Cert.Kernel4Ideal.Gen.frame m ρ, Cert.Same.Mix.ref_frame,
  kept, equal, trivial, Cert.Same.ffn_equal, trivial, Cert.Same.Mla.equal, trivial, Cert.Same.Mix.equal⟩

end Cert.Proof

end
